-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_masked [hPre_finite_masked : Cert.Pre_finite_masked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_masked [hPre_finite_masked : Cert.Pre_finite_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_masked [hKernelIdeal : Cert.KernelIdeal.Facts] [hPre_finite_masked : Cert.Pre_finite_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_masked [hReferenceIdeal : Cert.ReferenceIdeal.Facts] [hPre_finite_masked : Cert.Pre_finite_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0x4E6E6B28#32 ⊤

def algebraic_KernelIdeal_ReferenceIdeal_pre_finite_masked [hKernelIdeal : Cert.KernelIdeal.Facts] [hReferenceIdeal : Cert.ReferenceIdeal.Facts] [hPre_finite_masked : Cert.Pre_finite_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_masked : Cert.Pre_finite_masked.Facts),
    quiescent_Kernel (hKernel := hKernel)
    ∧ quiescent_KernelIdeal (hKernelIdeal := hKernelIdeal)
    ∧ quiescent_KernelIdeal_pre_finite_masked (hKernelIdeal := hKernelIdeal) (hPre_finite_masked := hPre_finite_masked)
    ∧ quiescent_ReferenceIdeal (hReferenceIdeal := hReferenceIdeal)
    ∧ quiescent_ReferenceIdeal_pre_finite_masked (hReferenceIdeal := hReferenceIdeal) (hPre_finite_masked := hPre_finite_masked)
    ∧ preserves_Kernel_KernelIdeal
    ∧ algebraic_KernelIdeal_ReferenceIdeal_pre_finite_masked (hKernelIdeal := hKernelIdeal) (hReferenceIdeal := hReferenceIdeal) (hPre_finite_masked := hPre_finite_masked)
-- ==== Pre_finite_masked.lean ====
abbrev S2048x2x768 : Shape := ⟨3, ![2048, 2, 768]⟩
abbrev S2x1x2048x2048 : Shape := ⟨4, ![2, 1, 2048, 2048]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x12x3x64 : Shape := ⟨4, ![768, 12, 3, 64]⟩
abbrev S768x12x2x64 : Shape := ⟨4, ![768, 12, 2, 64]⟩
abbrev S12x3x64 : Shape := ⟨3, ![12, 3, 64]⟩
abbrev S12x2x64 : Shape := ⟨3, ![12, 2, 64]⟩
abbrev S_ : Shape := ⟨0, ![]⟩

class Facts : Prop where
  shapeCasts_S768x2304_S768x12x3x64 : S768x2304.ShapeCasts S768x12x3x64
  slices_S768x12x3x64_S768x12x2x64_0_0_0_0 : S768x12x3x64.Slices ![0, 0, 0, 0] S768x12x2x64
  shapeCasts_S2304_S12x3x64 : S2304.ShapeCasts S12x3x64
  slices_S12x3x64_S12x2x64_0_0_0 : S12x3x64.Slices ![0, 0, 0] S12x2x64
  bcast_S_S2048x2x768 : S_.BroadcastsInDim S2048x2x768 (![] : Fin 0 → Fin S2048x2x768.rank)
  bcast_S_S2x1x2048x2048 : S_.BroadcastsInDim S2x1x2048x2048 (![] : Fin 0 → Fin S2x1x2048x2048.rank)
  bcast_S_S768x12x2x64 : S_.BroadcastsInDim S768x12x2x64 (![] : Fin 0 → Fin S768x12x2x64.rank)
  bcast_S_S12x2x64 : S_.BroadcastsInDim S12x2x64 (![] : Fin 0 → Fin S12x2x64.rank)

variable [Facts]

def fn {F : FTy → Type} [FloatOps F] (main_arg0 : FVec F S2048x2x768 .f32) (main_arg1 : FVec F S2x1x2048x2048 .f32) (main_arg2 : FVec F S768x2304 .f32) (main_arg3 : FVec F S2304 .f32) (main_arg4 : FVec F S768x768 .f32) (main_arg5 : FVec F S768 .f32) : IVec S2048x2x768 1 × IVec S2x1x2048x2048 1 × IVec S768x12x2x64 1 × IVec S12x2x64 1 :=
  let main_v0 : FVec F S768x12x3x64 .f32 := shapeCast S768x12x3x64 main_arg2 shapeCasts_S768x2304_S768x12x3x64
  let main_v1 : FVec F S768x12x2x64 .f32 := (extractStridedSlice S768x12x2x64 ![0, 0, 0, 0] · slices_S768x12x3x64_S768x12x2x64_0_0_0_0) main_v0
  let main_v2 : FVec F S12x3x64 .f32 := shapeCast S12x3x64 main_arg3 shapeCasts_S2304_S12x3x64
  let main_v3 : FVec F S12x2x64 .f32 := (extractStridedSlice S12x2x64 ![0, 0, 0] · slices_S12x3x64_S12x2x64_0_0_0) main_v2
  let main_v4 : FVec F S2048x2x768 .f32 := Host.absf main_arg0
  let main_cst : FVec F S_ .f32 := constant S_ .f32 0x7F800000#32
  let main_v5 : FVec F S2048x2x768 .f32 := broadcastInDim S2048x2x768 ![] bcast_S_S2048x2x768 main_cst
  let main_v6 : IVec S2048x2x768 1 := cmpf .olt main_v4 main_v5
  let main_cst_0 : FVec F S_ .f32 := constant S_ .f32 0x00000000#32
  let main_v7 : FVec F S2x1x2048x2048 .f32 := broadcastInDim S2x1x2048x2048 ![] bcast_S_S2x1x2048x2048 main_cst_0
  let main_v8 : IVec S2x1x2048x2048 1 := cmpf .oeq main_arg1 main_v7
  let main_cst_1 : FVec F S_ .f32 := constant S_ .f32 0x3F800000#32
  let main_v9 : FVec F S2x1x2048x2048 .f32 := broadcastInDim S2x1x2048x2048 ![] bcast_S_S2x1x2048x2048 main_cst_1
  let main_v10 : IVec S2x1x2048x2048 1 := cmpf .oeq main_arg1 main_v9
  let main_v11 : IVec S2x1x2048x2048 1 := ori main_v8 main_v10
  let main_v12 : FVec F S768x12x2x64 .f32 := Host.absf main_v1
  let main_cst_2 : FVec F S_ .f32 := constant S_ .f32 0x7F800000#32
  let main_v13 : FVec F S768x12x2x64 .f32 := broadcastInDim S768x12x2x64 ![] bcast_S_S768x12x2x64 main_cst_2
  let main_v14 : IVec S768x12x2x64 1 := cmpf .olt main_v12 main_v13
  let main_v15 : FVec F S12x2x64 .f32 := Host.absf main_v3
  let main_cst_3 : FVec F S_ .f32 := constant S_ .f32 0x7F800000#32
  let main_v16 : FVec F S12x2x64 .f32 := broadcastInDim S12x2x64 ![] bcast_S_S12x2x64 main_cst_3
  let main_v17 : IVec S12x2x64 1 := cmpf .olt main_v15 main_v16
  (main_v6, main_v11, main_v14, main_v17)
-- ==== Kernel.lean ====
abbrev S2048x2x768 : Shape := ⟨3, ![2048, 2, 768]⟩
abbrev S2x1x2048x2048 : Shape := ⟨4, ![2, 1, 2048, 2048]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S2048x1536 : Shape := ⟨2, ![2048, 1536]⟩
abbrev S2x2048x2048 : Shape := ⟨3, ![2, 2048, 2048]⟩
abbrev S768x12x3x64 : Shape := ⟨4, ![768, 12, 3, 64]⟩
abbrev S768x12x1x64 : Shape := ⟨4, ![768, 12, 1, 64]⟩
abbrev S768x12x64 : Shape := ⟨3, ![768, 12, 64]⟩
abbrev S_ : Shape := ⟨0, ![]⟩
abbrev S768x12x256 : Shape := ⟨3, ![768, 12, 256]⟩
abbrev S768x3072 : Shape := ⟨2, ![768, 3072]⟩
abbrev S12x3x64 : Shape := ⟨3, ![12, 3, 64]⟩
abbrev S12x64 : Shape := ⟨2, ![12, 64]⟩
abbrev S1 : Shape := ⟨1, ![1]⟩
abbrev S12 : Shape := ⟨1, ![12]⟩
abbrev S12x1x64 : Shape := ⟨3, ![12, 1, 64]⟩
abbrev S12x256 : Shape := ⟨2, ![12, 256]⟩
abbrev S1x3072 : Shape := ⟨2, ![1, 3072]⟩
abbrev S4096x3072 : Shape := ⟨2, ![4096, 3072]⟩
abbrev S512x1536 : Shape := ⟨2, ![512, 1536]⟩
abbrev S512x3072 : Shape := ⟨2, ![512, 3072]⟩
abbrev S512x768 : Shape := ⟨2, ![512, 768]⟩
abbrev S1x768 : Shape := ⟨2, ![1, 768]⟩
abbrev S4096x768 : Shape := ⟨2, ![4096, 768]⟩
abbrev S2048x3072 : Shape := ⟨2, ![2048, 3072]⟩
abbrev S1x512x2048 : Shape := ⟨3, ![1, 512, 2048]⟩
abbrev S512x2048 : Shape := ⟨2, ![512, 2048]⟩
abbrev S2048x64 : Shape := ⟨2, ![2048, 64]⟩
abbrev S512x64 : Shape := ⟨2, ![512, 64]⟩
abbrev S2048x128 : Shape := ⟨2, ![2048, 128]⟩
abbrev S512x128 : Shape := ⟨2, ![512, 128]⟩
abbrev S512x1 : Shape := ⟨2, ![512, 1]⟩
abbrev S2x2048x768 : Shape := ⟨3, ![2, 2048, 768]⟩

abbrev nBuf : Space → Nat
  | .hbm => 42
  | .vmem => 14
  | .smem => 0
  | _ => 0

abbrev bufTy : (tb : Table) → Fin (tcTables nBuf tb) → BufTy
  | .hbm, ⟨0, _⟩ => ⟨S2048x2x768, .f32⟩
  | .hbm, ⟨1, _⟩ => ⟨S2x1x2048x2048, .f32⟩
  | .hbm, ⟨2, _⟩ => ⟨S768x2304, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S2048x1536, .f32⟩
  | .hbm, ⟨7, _⟩ => ⟨S2x2048x2048, .f32⟩
  | .hbm, ⟨8, _⟩ => ⟨S768x12x3x64, .f32⟩
  | .hbm, ⟨9, _⟩ => ⟨S768x12x1x64, .f32⟩
  | .hbm, ⟨10, _⟩ => ⟨S768x12x64, .f32⟩
  | .hbm, ⟨11, _⟩ => ⟨S768x12x1x64, .f32⟩
  | .hbm, ⟨12, _⟩ => ⟨S768x12x64, .f32⟩
  | .hbm, ⟨13, _⟩ => ⟨S768x12x1x64, .f32⟩
  | .hbm, ⟨14, _⟩ => ⟨S768x12x64, .f32⟩
  | .hbm, ⟨15, _⟩ => ⟨S_, .f32⟩
  | .hbm, ⟨16, _⟩ => ⟨S768x12x64, .f32⟩
  | .hbm, ⟨17, _⟩ => ⟨S768x12x256, .f32⟩
  | .hbm, ⟨18, _⟩ => ⟨S768x3072, .f32⟩
  | .hbm, ⟨19, _⟩ => ⟨S768x3072, .bf16⟩
  | .hbm, ⟨20, _⟩ => ⟨S12x3x64, .f32⟩
  | .hbm, ⟨21, _⟩ => ⟨S_, .f32⟩
  | .hbm, ⟨22, _⟩ => ⟨S12x64, .f32⟩
  | .hbm, ⟨23, _⟩ => ⟨S_, .i32⟩
  | .hbm, ⟨24, _⟩ => ⟨S1, .i32⟩
  | .hbm, ⟨25, _⟩ => ⟨S_, .f32⟩
  | .hbm, ⟨26, _⟩ => ⟨S12, .f32⟩
  | .hbm, ⟨27, _⟩ => ⟨S12x64, .f32⟩
  | .hbm, ⟨28, _⟩ => ⟨S12x1x64, .f32⟩
  | .hbm, ⟨29, _⟩ => ⟨S12x64, .f32⟩
  | .hbm, ⟨30, _⟩ => ⟨S12x1x64, .f32⟩
  | .hbm, ⟨31, _⟩ => ⟨S12x64, .f32⟩
  | .hbm, ⟨32, _⟩ => ⟨S12x1x64, .f32⟩
  | .hbm, ⟨33, _⟩ => ⟨S12x64, .f32⟩
  | .hbm, ⟨34, _⟩ => ⟨S12x256, .f32⟩
  | .hbm, ⟨35, _⟩ => ⟨S1x3072, .f32⟩
  | .hbm, ⟨36, _⟩ => ⟨S768x768, .bf16⟩
  | .hbm, ⟨37, _⟩ => ⟨S4096x3072, .bf16⟩
  | .hbm, ⟨38, _⟩ => ⟨S1x768, .f32⟩
  | .hbm, ⟨39, _⟩ => ⟨S4096x768, .f32⟩
  | .hbm, ⟨40, _⟩ => ⟨S2x2048x768, .f32⟩
  | .hbm, ⟨41, _⟩ => ⟨S2048x2x768, .f32⟩
  | .local _ .vmem, ⟨0, _⟩ => ⟨S512x1536, .f32⟩
  | .local _ .vmem, ⟨1, _⟩ => ⟨S512x1536, .f32⟩
  | .local _ .vmem, ⟨2, _⟩ => ⟨S768x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S2048x3072, .bf16⟩
  | .local _ .vmem, ⟨7, _⟩ => ⟨S2048x3072, .bf16⟩
  | .local _ .vmem, ⟨8, _⟩ => ⟨S1x512x2048, .f32⟩
  | .local _ .vmem, ⟨9, _⟩ => ⟨S1x512x2048, .f32⟩
  | .local _ .vmem, ⟨10, _⟩ => ⟨S768x768, .bf16⟩
  | .local _ .vmem, ⟨11, _⟩ => ⟨S1x768, .f32⟩
  | .local _ .vmem, ⟨12, _⟩ => ⟨S512x768, .f32⟩
  | .local _ .vmem, ⟨13, _⟩ => ⟨S512x768, .f32⟩
  | _, _ => ⟨S2048x2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let c0 : Index := 0#32
  let arg0 : BitVec 32 := BitVec.ofNat 32 (i 0).val
  let c768_i32 : BitVec 32 := 768#32
  let v0 : BitVec 32 := Scalar.muli arg0 c768_i32
  let v1 : Index := Scalar.indexCast v0
  ![0, v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def k1_off1 (i : grid1.Coords) : Fin 2 → Nat :=
  let arg1 : BitVec 32 := BitVec.ofNat 32 (i 1).val
  let c512_i32 : BitVec 32 := 512#32
  let v8 : BitVec 32 := Scalar.muli arg1 c512_i32
  let v9 : Index := Scalar.indexCast v8
  let c64 : Index := 64#32
  ![v9.toNat, 64]
def k1_off2 (i : grid1.Coords) : Fin 2 → Nat :=
  let arg1 : BitVec 32 := BitVec.ofNat 32 (i 1).val
  let c512_i32_12 : BitVec 32 := 512#32
  let v31 : BitVec 32 := Scalar.muli arg1 c512_i32_12
  let v32 : Index := Scalar.indexCast v31
  let c320 : Index := 320#32
  ![v32.toNat, 320]
def k1_off3 (i : grid1.Coords) : Fin 2 → Nat :=
  let arg1 : BitVec 32 := BitVec.ofNat 32 (i 1).val
  let c512_i32_20 : BitVec 32 := 512#32
  let v54 : BitVec 32 := Scalar.muli arg1 c512_i32_20
  let v55 : Index := Scalar.indexCast v54
  let c576 : Index := 576#32
  ![v55.toNat, 576]
def k1_off4 (i : grid1.Coords) : Fin 2 → Nat :=
  let arg1 : BitVec 32 := BitVec.ofNat 32 (i 1).val
  let c512_i32_28 : BitVec 32 := 512#32
  let v77 : BitVec 32 := Scalar.muli arg1 c512_i32_28
  let v78 : Index := Scalar.indexCast v77
  let c832 : Index := 832#32
  ![v78.toNat, 832]
def k1_off5 (i : grid1.Coords) : Fin 2 → Nat :=
  let arg1 : BitVec 32 := BitVec.ofNat 32 (i 1).val
  let c512_i32_36 : BitVec 32 := 512#32
  let v100 : BitVec 32 := Scalar.muli arg1 c512_i32_36
  let v101 : Index := Scalar.indexCast v100
  let c1088 : Index := 1088#32
  ![v101.toNat, 1088]
def k1_off6 (i : grid1.Coords) : Fin 2 → Nat :=
  let arg1 : BitVec 32 := BitVec.ofNat 32 (i 1).val
  let c512_i32_44 : BitVec 32 := 512#32
  let v123 : BitVec 32 := Scalar.muli arg1 c512_i32_44
  let v124 : Index := Scalar.indexCast v123
  let c1344 : Index := 1344#32
  ![v124.toNat, 1344]
def k1_off7 (i : grid1.Coords) : Fin 2 → Nat :=
  let arg1 : BitVec 32 := BitVec.ofNat 32 (i 1).val
  let c512_i32_52 : BitVec 32 := 512#32
  let v146 : BitVec 32 := Scalar.muli arg1 c512_i32_52
  let v147 : Index := Scalar.indexCast v146
  let c1600 : Index := 1600#32
  ![v147.toNat, 1600]
def k1_off8 (i : grid1.Coords) : Fin 2 → Nat :=
  let arg1 : BitVec 32 := BitVec.ofNat 32 (i 1).val
  let c512_i32_60 : BitVec 32 := 512#32
  let v169 : BitVec 32 := Scalar.muli arg1 c512_i32_60
  let v170 : Index := Scalar.indexCast v169
  let c1856 : Index := 1856#32
  ![v170.toNat, 1856]
def k1_off9 (i : grid1.Coords) : Fin 2 → Nat :=
  let arg1 : BitVec 32 := BitVec.ofNat 32 (i 1).val
  let c512_i32_68 : BitVec 32 := 512#32
  let v192 : BitVec 32 := Scalar.muli arg1 c512_i32_68
  let v193 : Index := Scalar.indexCast v192
  let c2112 : Index := 2112#32
  ![v193.toNat, 2112]
def k1_off10 (i : grid1.Coords) : Fin 2 → Nat :=
  let arg1 : BitVec 32 := BitVec.ofNat 32 (i 1).val
  let c512_i32_76 : BitVec 32 := 512#32
  let v215 : BitVec 32 := Scalar.muli arg1 c512_i32_76
  let v216 : Index := Scalar.indexCast v215
  let c2368 : Index := 2368#32
  ![v216.toNat, 2368]
def k1_off11 (i : grid1.Coords) : Fin 2 → Nat :=
  let arg1 : BitVec 32 := BitVec.ofNat 32 (i 1).val
  let c512_i32_84 : BitVec 32 := 512#32
  let v238 : BitVec 32 := Scalar.muli arg1 c512_i32_84
  let v239 : Index := Scalar.indexCast v238
  let c2624 : Index := 2624#32
  ![v239.toNat, 2624]
def k1_off12 (i : grid1.Coords) : Fin 2 → Nat :=
  let arg1 : BitVec 32 := BitVec.ofNat 32 (i 1).val
  let c512_i32_92 : BitVec 32 := 512#32
  let v261 : BitVec 32 := Scalar.muli arg1 c512_i32_92
  let v262 : Index := Scalar.indexCast v261
  let c2880 : Index := 2880#32
  ![v262.toNat, 2880]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S2048x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S768x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "mask" => some ⊤
  | _ => none
-- ==== ReferenceIdeal.lean ====
abbrev S2048x2x768 : Shape := ⟨3, ![2048, 2, 768]⟩
abbrev S2x1x2048x2048 : Shape := ⟨4, ![2, 1, 2048, 2048]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S2x2048x768 : Shape := ⟨3, ![2, 2048, 768]⟩
abbrev S2x2048x2304 : Shape := ⟨3, ![2, 2048, 2304]⟩
abbrev S1x1x2304 : Shape := ⟨3, ![1, 1, 2304]⟩
abbrev S2x2048x12x192 : Shape := ⟨4, ![2, 2048, 12, 192]⟩
abbrev S2x2048x12x64 : Shape := ⟨4, ![2, 2048, 12, 64]⟩
abbrev S2x12x2048x64 : Shape := ⟨4, ![2, 12, 2048, 64]⟩
abbrev S24x2048x64 : Shape := ⟨3, ![24, 2048, 64]⟩
abbrev S2x2048x2048 : Shape := ⟨3, ![2, 2048, 2048]⟩
abbrev S_ : Shape := ⟨0, ![]⟩
abbrev S2x12x2048x2048 : Shape := ⟨4, ![2, 12, 2048, 2048]⟩
abbrev S24x2048x2048 : Shape := ⟨3, ![24, 2048, 2048]⟩
abbrev S24x2048 : Shape := ⟨2, ![24, 2048]⟩
abbrev S24x2048x1 : Shape := ⟨3, ![24, 2048, 1]⟩
abbrev S2048x24x64 : Shape := ⟨3, ![2048, 24, 64]⟩
abbrev S1x1x768 : Shape := ⟨3, ![1, 1, 768]⟩

abbrev nBuf : Space → Nat
  | .hbm => 61
  | .vmem => 0
  | .smem => 0
  | _ => 0

abbrev bufTy : (tb : Table) → Fin (tcTables nBuf tb) → BufTy
  | .hbm, ⟨0, _⟩ => ⟨S2048x2x768, .f32⟩
  | .hbm, ⟨1, _⟩ => ⟨S2x1x2048x2048, .f32⟩
  | .hbm, ⟨2, _⟩ => ⟨S768x2304, .f32⟩
  | .hbm, ⟨3, _⟩ => ⟨S2304, .f32⟩
  | .hbm, ⟨4, _⟩ => ⟨S768x768, .f32⟩
  | .hbm, ⟨5, _⟩ => ⟨S768, .f32⟩
  | .hbm, ⟨6, _⟩ => ⟨S2x2048x768, .f32⟩
  | .hbm, ⟨7, _⟩ => ⟨S2x2048x2304, .f32⟩
  | .hbm, ⟨8, _⟩ => ⟨S1x1x2304, .f32⟩
  | .hbm, ⟨9, _⟩ => ⟨S2x2048x2304, .f32⟩
  | .hbm, ⟨10, _⟩ => ⟨S2x2048x2304, .f32⟩
  | .hbm, ⟨11, _⟩ => ⟨S2x2048x12x192, .f32⟩
  | .hbm, ⟨12, _⟩ => ⟨S2x2048x12x64, .f32⟩
  | .hbm, ⟨13, _⟩ => ⟨S2x2048x12x64, .f32⟩
  | .hbm, ⟨14, _⟩ => ⟨S2x2048x12x64, .f32⟩
  | .hbm, ⟨15, _⟩ => ⟨S2x12x2048x64, .f32⟩
  | .hbm, ⟨16, _⟩ => ⟨S24x2048x64, .f32⟩
  | .hbm, ⟨17, _⟩ => ⟨S2x12x2048x64, .f32⟩
  | .hbm, ⟨18, _⟩ => ⟨S24x2048x64, .f32⟩
  | .hbm, ⟨19, _⟩ => ⟨S2x12x2048x64, .f32⟩
  | .hbm, ⟨20, _⟩ => ⟨S24x2048x64, .f32⟩
  | .hbm, ⟨21, _⟩ => ⟨S2x2048x2048, .f32⟩
  | .hbm, ⟨22, _⟩ => ⟨S2x1x2048x2048, .f32⟩
  | .hbm, ⟨23, _⟩ => ⟨S_, .f32⟩
  | .hbm, ⟨24, _⟩ => ⟨S2x1x2048x2048, .f32⟩
  | .hbm, ⟨25, _⟩ => ⟨S2x1x2048x2048, .i1⟩
  | .hbm, ⟨26, _⟩ => ⟨S2x12x2048x2048, .i1⟩
  | .hbm, ⟨27, _⟩ => ⟨S24x2048x2048, .i1⟩
  | .hbm, ⟨28, _⟩ => ⟨S24x2048x2048, .f32⟩
  | .hbm, ⟨29, _⟩ => ⟨S_, .f32⟩
  | .hbm, ⟨30, _⟩ => ⟨S24x2048x2048, .f32⟩
  | .hbm, ⟨31, _⟩ => ⟨S24x2048x2048, .f32⟩
  | .hbm, ⟨32, _⟩ => ⟨S_, .f32⟩
  | .hbm, ⟨33, _⟩ => ⟨S_, .f32⟩
  | .hbm, ⟨34, _⟩ => ⟨S24x2048x2048, .f32⟩
  | .hbm, ⟨35, _⟩ => ⟨S24x2048x2048, .f32⟩
  | .hbm, ⟨36, _⟩ => ⟨S_, .f32⟩
  | .hbm, ⟨37, _⟩ => ⟨S24x2048, .f32⟩
  | .hbm, ⟨38, _⟩ => ⟨S_, .f32⟩
  | .hbm, ⟨39, _⟩ => ⟨S24x2048, .f32⟩
  | .hbm, ⟨40, _⟩ => ⟨S24x2048, .f32⟩
  | .hbm, ⟨41, _⟩ => ⟨S24x2048x1, .f32⟩
  | .hbm, ⟨42, _⟩ => ⟨S24x2048x2048, .f32⟩
  | .hbm, ⟨43, _⟩ => ⟨S24x2048x2048, .f32⟩
  | .hbm, ⟨44, _⟩ => ⟨S24x2048x2048, .f32⟩
  | .hbm, ⟨45, _⟩ => ⟨S_, .f32⟩
  | .hbm, ⟨46, _⟩ => ⟨S24x2048, .f32⟩
  | .hbm, ⟨47, _⟩ => ⟨S24x2048x1, .f32⟩
  | .hbm, ⟨48, _⟩ => ⟨S24x2048x2048, .f32⟩
  | .hbm, ⟨49, _⟩ => ⟨S24x2048x2048, .f32⟩
  | .hbm, ⟨50, _⟩ => ⟨S_, .f32⟩
  | .hbm, ⟨51, _⟩ => ⟨S_, .f32⟩
  | .hbm, ⟨52, _⟩ => ⟨S24x2048x2048, .f32⟩
  | .hbm, ⟨53, _⟩ => ⟨S24x2048x2048, .f32⟩
  | .hbm, ⟨54, _⟩ => ⟨S24x2048x64, .f32⟩
  | .hbm, ⟨55, _⟩ => ⟨S2048x24x64, .f32⟩
  | .hbm, ⟨56, _⟩ => ⟨S2048x2x768, .f32⟩
  | .hbm, ⟨57, _⟩ => ⟨S2048x2x768, .f32⟩
  | .hbm, ⟨58, _⟩ => ⟨S1x1x768, .f32⟩
  | .hbm, ⟨59, _⟩ => ⟨S2048x2x768, .f32⟩
  | .hbm, ⟨60, _⟩ => ⟨S2048x2x768, .f32⟩
  | _, _ => ⟨S2048x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Proof.KernelRun.lean ====
/- Hand-written: the run of the kernel program with its result. The generated launch of the two regions states only that
   the arguments end unchanged; here the same launch also says what the result array ends holding, the contents of its
   buffer at the last boundary between host operations and kernels. -/
module

public import proofs.«01_k».proof.Proof.Gen.KernelIdeal.Frame

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program from the memory `m` ends, with the result array holding what the last host
    stretch leaves in it and every argument array as it was. -/
theorem run : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Value

end
-- ==== Proof.Blocks.lean ====
/- Hand-written. What each kernel body leaves in its output block, as plain functions of the blocks it reads. -/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The corner of a two-axis array is the all-zero offset. -/
theorem corner2 : (![0, 0] : Fin 2 → Nat) = fun _ => 0 := by decide
/-- The corner of a three-axis array is the all-zero offset. -/
theorem corner3 : (![0, 0, 0] : Fin 3 → Nat) = fun _ => 0 := by decide

/-- The bounds of a batch entry's columns within a block of hidden rows. -/
theorem inbX (i : grid0.Coords) : ∀ a, (![0, k0_off1 i 1] : Fin 2 → Nat) a + S512x768.size a ≤ S512x1536.size a := by
  revert i; decide +kernel

/-- What the projection kernel's body leaves in its output block: its payload of one batch entry's columns of the hidden
    rows, the weights and the bias. -/
theorem out0_eq (c : Dev nD) (i : grid0.Coords) (arg2 : Memref sig .tc .vmem S512x1536 .f32) (harg2 : arg2.IsWhole) (arg3 : Memref sig .tc .vmem S768x3072 .bf16) (harg3 : arg3.IsWhole) (arg4 : Memref sig .tc .vmem S1x3072 .f32) (harg4 : arg4.IsWhole) (arg5 : Memref sig .tc .vmem S512x3072 .bf16) (harg5 : arg5.IsWhole)
    (x0 : Vec Ideal S512x1536 .f32) (x1 : Vec Ideal S768x3072 .bf16) (x2 : Vec Ideal S1x3072 .f32) :
    out0_A_3 c i arg2 harg2 arg3 harg3 arg4 harg4 arg5 harg5 x0 x1 x2 =
      k0_pay1 (View.ld x0 (Rect.unit ![0, k0_off1 i 1] S512x768.size (inbX i))) x1 x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero corner2]
  simp only [View.readAt_eq_ld, harg2.read_unread, harg3.read_unread, harg4.read_unread, View.ld_unit_zero (S := S768x3072) corner2, View.ld_unit_zero (S := S1x3072) corner2]
  rfl

/-- The bounds of head `h`'s key columns within a batch entry's projected rows. -/
theorem inbK (h : Fin 12) : ∀ a, (![0, 256 * h.val] : Fin 2 → Nat) a + S2048x64.size a ≤ S2048x3072.size a := by
  revert h; decide +kernel

/-- The bounds of head `h`'s query rows and columns. -/
theorem inbQ (i : grid1.Coords) (h : Fin 12) : ∀ a, (![k1_off1 i 0, 256 * h.val + 64] : Fin 2 → Nat) a + S512x64.size a ≤ S2048x3072.size a := by
  revert h i; decide +kernel

/-- The bounds of head `h`'s value columns, the column of ones among them. -/
theorem inbV (h : Fin 12) : ∀ a, (![0, 256 * h.val + 128] : Fin 2 → Nat) a + S2048x128.size a ≤ S2048x3072.size a := by
  revert h; decide +kernel

/-- What the attention body computes for head `h` from the projected rows `X`. -/
def head (bias : FVec Ideal S512x2048 .f32) (X : Vec Ideal S2048x3072 .bf16) (i : grid1.Coords) (h : Fin 12) : FVec Ideal S512x64 .f32 :=
  k1_pay7 bias (View.ld X (Rect.unit ![0, 256 * h.val] S2048x64.size (inbK h)))
    (View.ld X (Rect.unit ![k1_off1 i 0, 256 * h.val + 64] S512x64.size (inbQ i h)))
    (View.ld X (Rect.unit ![0, 256 * h.val + 128] S2048x128.size (inbV h)))

/-- The body's last step, from the heads as a function. -/
def heads (f : Fin 12 → FVec Ideal S512x64 .f32) (x2 : Vec Ideal S768x768 .bf16) (x3 : Vec Ideal S1x768 .f32) : FVec Ideal S512x768 .f32 :=
  addf (matmul (φ₂ := .bf16) dot_S512x768_S768x768_S512x768_1_0_0_1_n_n none
    (truncf .bf16 (concatenate S512x768 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩] concatenates_S512x64_S512x64_S512x64_S512x64_S512x64_S512x64_S512x64_S512x64_S512x64_S512x64_S512x64_S512x64_S512x768_d1) bitsLt_bf16_f32)
    x2 (constant S512x768 .f32 0x00000000#32)) (broadcastTo S512x768 x3 broadcasts_S1x768_S512x768)

/-- The attention body's last payload takes the first eleven heads and the last head's numerator and denominator; it is
    `heads` of the twelve. -/
theorem pay1_heads (f : Fin 12 → FVec Ideal S512x64 .f32) (a b : FVec Ideal S512x64 .f32) (x2 : Vec Ideal S768x768 .bf16) (x3 : Vec Ideal S1x768 .f32)
    (h : divf a b = f 11) :
    k1_pay1 (f 0) (f 1) (f 2) (f 3) (f 4) (f 5) (f 6) (f 7) (f 8) (f 9) (f 10) a b x2 x3 = heads f x2 x3 := by
  unfold k1_pay1 heads
  simp only [shapeCast_self]
  generalize divf a b = z at h ⊢
  subst h
  rfl

/-- What the attention kernel's body leaves in its output block: the twelve heads, each computed from its own columns of
    the projected rows, through the output projection. -/
theorem out1_eq (c : Dev nD) (i : grid1.Coords) (arg2 : Memref sig .tc .vmem S2048x3072 .bf16) (harg2 : arg2.IsWhole) (arg3 : Memref sig .tc .vmem S1x512x2048 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S512x768 .f32) (harg6 : arg6.IsWhole)
    (x0 : Vec Ideal S2048x3072 .bf16) (x1 : Vec Ideal S1x512x2048 .f32) (x2 : Vec Ideal S768x768 .bf16) (x3 : Vec Ideal S1x768 .f32) :
    out1_A_4 c i arg2 harg2 arg3 harg3 arg4 harg4 arg5 harg5 arg6 harg6 x0 x1 x2 x3 = heads (head (k1_pay2 x1) x0 i) x2 x3 := by
  unfold out1_A_4
  rw [View.read_writes_eq_canon _ _ _ (cover1_A_4 c i arg2 harg2 arg3 harg3 arg4 harg4 arg5 harg5 arg6 harg6 x0 x1 x2 x3)]
  unfold kernelRun1_A
  dsimp only
  rw [View.canon_unit_zero corner2]
  simp only [View.readAt_eq_ld, harg2.read_unread, harg3.read_unread, harg4.read_unread, harg5.read_unread, View.ld_unit_zero (S := S768x768) corner2, View.ld_unit_zero (S := S1x768) corner2, View.ld_unit_zero (S := S1x512x2048) corner3]
  sl_unfold_words
  simp only [View.readAt_eq_ld, harg2.read_unread, harg3.read_unread, View.ld_unit_zero (S := S1x512x2048) corner3]
  exact pay1_heads (head (k1_pay2 x1) x0 i) _ _ x2 x3 rfl

end Cert.KernelIdeal.Value
-- ==== Proof.Consts.lean ====
/- Hand-written. The values of the float literals that the programs hold. -/
module

public import Idealize.ShloMosaic.PureOps.Ideal

@[expose] public section

namespace Cert.Attn

open Idealize.ShloMosaic

/-- The bfloat16 word of one eighth denotes one eighth. -/
theorem ofBits_eighth : Ideal.ofBits .bf16 0x3E00#16 = ((1 / 8 : ℝ) : EReal) := by
  simp [Ideal.ofBits, Ideal.ieee, -EReal.coe_mul]; norm_num

/-- The binary32 word of eight denotes eight. -/
theorem ofBits_eight : Ideal.ofBits .f32 0x41000000#32 = ((8 : ℝ) : EReal) := by
  simp [Ideal.ofBits, Ideal.ieee, -EReal.coe_mul]; norm_num

/-- The binary32 word of −∞ denotes −∞. -/
theorem ofBits_neg_inf : Ideal.ofBits .f32 0xFF800000#32 = (⊥ : EReal) := by
  simp [Ideal.ofBits, Ideal.ieee]

/-- The binary32 word of +∞ denotes +∞. -/
theorem ofBits_inf : Ideal.ofBits .f32 0x7F800000#32 = (⊤ : EReal) := by
  simp [Ideal.ofBits, Ideal.ieee]

end Cert.Attn
-- ==== Proof.Math.lean ====
/- Hand-written. The mathematics of one head: the kernel's unnormalised exponentials with an additive mask, divided by their sum, against
   the reference's masked softmax. -/
module

public import Idealize.ShloMosaic.PureOps.Ideal
public import Mathlib.Algebra.BigOperators.Field

@[expose] public section

noncomputable section

namespace Cert.Attn

open Idealize.ShloMosaic

/-- The kernel's unnormalised weight of key `j`: the exponential of the scaled score plus the mask's bias. -/
def kerP (q : Fin 64 → EReal) (k : Fin 2048 → Fin 64 → EReal) (m : Fin 2048 → EReal) (j : Fin 2048) : EReal :=
  Ideal.exp (∑ e, q e * ((1 / 8 : ℝ) : EReal) * k j e + (m j - 1) * ⊤)

/-- The kernel's value of one head at one query and one lane: the weighted sum of the values over the sum of the
    weights, that sum replaced by one where it is zero. -/
def kerHead (q : Fin 64 → EReal) (k : Fin 2048 → Fin 64 → EReal) (v : Fin 2048 → EReal) (m : Fin 2048 → EReal) : EReal :=
  Ideal.div (∑ j, kerP q k m j * v j) (if ∑ j, kerP q k m j = 0 then 1 else ∑ j, kerP q k m j)

/-- The reference's masked score of key `j`: the dot product over eight where the mask is not zero, −∞ where it is. -/
def refS (q : Fin 64 → EReal) (k : Fin 2048 → Fin 64 → EReal) (m : Fin 2048 → EReal) (j : Fin 2048) : EReal :=
  if m j ≠ 0 then Ideal.div (∑ e, q e * k j e) ((8 : ℝ) : EReal) else ⊥

/-- The reference's exponential of a score less the row's greatest. -/
def refE (q : Fin 64 → EReal) (k : Fin 2048 → Fin 64 → EReal) (m : Fin 2048 → EReal) (j : Fin 2048) : EReal :=
  Ideal.exp (refS q k m j - Finset.univ.fold max ⊥ (refS q k m))

/-- The reference's attention weight of key `j`: the softmax where the mask is not zero, zero where it is. -/
def refW (q : Fin 64 → EReal) (k : Fin 2048 → Fin 64 → EReal) (m : Fin 2048 → EReal) (j : Fin 2048) : EReal :=
  if m j ≠ 0 then Ideal.div (refE q k m j) (∑ i, refE q k m i) else 0

/-- The reference's value of one head at one query and one lane: the values summed with the attention weights. -/
def refHead (q : Fin 64 → EReal) (k : Fin 2048 → Fin 64 → EReal) (v : Fin 2048 → EReal) (m : Fin 2048 → EReal) : EReal :=
  ∑ j, refW q k m j * v j

/-- A finite sum of reals, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor passes through a finite sum of extended reals. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, ← ih, EReal.left_distrib_of_nonneg_of_ne_top (by exact_mod_cast hc) (EReal.coe_ne_top c)]

/-- A fold of the maximum from −∞ is an upper bound of the folded values, and −∞ or one of them. -/
theorem fold_max_spec {ι : Type} (s : Finset ι) (f : ι → EReal) :
    (∀ i ∈ s, f i ≤ s.fold max ⊥ f) ∧ (s.fold max ⊥ f = ⊥ ∨ ∃ i ∈ s, s.fold max ⊥ f = f i) := by
  classical
  induction s using Finset.induction_on with
  | empty => simp
  | insert a s ha ih =>
    rw [Finset.fold_insert ha]
    refine ⟨fun i hi => ?_, ?_⟩
    · rcases Finset.mem_insert.mp hi with rfl | hi
      · exact le_max_left _ _
      · exact (ih.1 i hi).trans (le_max_right _ _)
    · rcases le_total (f a) (s.fold max ⊥ f) with h | h
      · rw [max_eq_right h]
        exact ih.2.imp_right fun ⟨i, hi, e⟩ => ⟨i, Finset.mem_insert_of_mem hi, e⟩
      · exact Or.inr ⟨a, Finset.mem_insert_self _ _, max_eq_left h⟩

/-- On finite queries and keys, any values and a mask of zeros and ones, the kernel's head value is the reference's. -/
theorem kerHead_eq_refHead (q : Fin 64 → ℝ) (k : Fin 2048 → Fin 64 → ℝ) (v : Fin 2048 → EReal) (m : Fin 2048 → EReal)
    (hm : ∀ j, m j = 0 ∨ m j = 1) :
    kerHead (fun e => q e) (fun j e => k j e) v m = refHead (fun e => q e) (fun j e => k j e) v m := by
  classical
  let s : Fin 2048 → ℝ := fun j => (∑ e, q e * k j e) / 8
  let P : Fin 2048 → ℝ := fun j => if m j = 0 then 0 else Real.exp (s j)
  have hP : ∀ j, kerP (fun e => q e) (fun j e => k j e) m j = (P j : EReal) := by
    intro j
    have h1 : ∑ e, (q e : EReal) * ((1 / 8 : ℝ) : EReal) * (k j e : EReal) = (s j : EReal) := by
      simp only [← EReal.coe_mul, coe_sum, s]
      congr 1
      rw [Finset.sum_div]
      exact Finset.sum_congr rfl fun e _ => by ring
    unfold kerP
    rw [h1]
    rcases hm j with h | h
    · have : ((0 : EReal) - 1) * ⊤ = ⊥ := by
        have : ((0 : EReal) - 1) = ((-1 : ℝ) : EReal) := by norm_num
        rw [this, EReal.coe_mul_top_of_neg (by norm_num)]
      simp [P, h, this]
    · have : ((1 : EReal) - 1) * ⊤ = 0 := by
        have : ((1 : EReal) - 1) = 0 := by rw [← EReal.coe_one, ← EReal.coe_sub, sub_self, EReal.coe_zero]
        rw [this, zero_mul]
      simp [P, h, this]
  have hS : ∀ j, refS (fun e => q e) (fun j e => k j e) m j = if m j = 0 then ⊥ else (s j : EReal) := by
    intro j
    unfold refS
    by_cases h : m j = 0
    · simp [h]
    · rw [if_pos h, if_neg h, Ideal.div_coe (by norm_num)]
      simp only [← EReal.coe_mul, coe_sum, s]
      congr 1
      ring
  unfold kerHead refHead
  simp only [hP, coe_sum]
  by_cases hall : ∀ j, m j = 0
  · have h0 : ∀ j, P j = 0 := fun j => by simp [P, hall j]
    simp [h0, refW, hall, Ideal.div]
  · push Not at hall
    obtain ⟨j0, hj0⟩ := hall
    obtain ⟨hub, hmem⟩ := fold_max_spec Finset.univ (refS (fun e => q e) (fun j e => k j e) m)
    obtain ⟨r, hr⟩ : ∃ r : ℝ, Finset.univ.fold max ⊥ (refS (fun e => q e) (fun j e => k j e) m) = (r : EReal) := by
      have hlow := hub j0 (Finset.mem_univ _)
      rw [hS, if_neg hj0] at hlow
      rcases hmem with h | ⟨i, -, h⟩
      · rw [h] at hlow; exact absurd (le_bot_iff.mp hlow) (EReal.coe_ne_bot _)
      · rw [hS] at h
        by_cases hi : m i = 0
        · rw [if_pos hi] at h
          rw [h] at hlow; exact absurd (le_bot_iff.mp hlow) (EReal.coe_ne_bot _)
        · rw [if_neg hi] at h
          exact ⟨_, h⟩
    have hE : ∀ j, refE (fun e => q e) (fun j e => k j e) m j = ((P j * Real.exp (-r) : ℝ) : EReal) := by
      intro j
      unfold refE
      rw [hr, hS]
      by_cases h : m j = 0
      · simp [P, h]
      · rw [if_neg h, ← EReal.coe_sub, Ideal.exp_coe]
        simp [P, h, sub_eq_add_neg, Real.exp_add]
    have hPn : ∀ j, 0 ≤ P j := fun j => by
      by_cases h : m j = 0
      · simp [P, h]
      · simpa [P, h] using (Real.exp_pos _).le
    have hL : 0 < ∑ j, P j := by
      refine Finset.sum_pos' (fun j _ => hPn j) ⟨j0, Finset.mem_univ _, ?_⟩
      simpa [P, hj0] using Real.exp_pos _
    have hLe : ((∑ j, P j : ℝ) : EReal) ≠ 0 := by exact_mod_cast hL.ne'
    have hD : (∑ j, P j * Real.exp (-r)) ≠ 0 := by
      rw [← Finset.sum_mul]; exact (mul_pos hL (Real.exp_pos _)).ne'
    rw [if_neg hLe, Ideal.div_coe hL.ne', mul_comm, coe_mul_sum _ _ (one_div_nonneg.2 hL.le)]
    have hW : ∀ j, refW (fun e => q e) (fun j e => k j e) m j = ((P j / ∑ i, P i : ℝ) : EReal) := by
      intro j
      unfold refW
      by_cases h : m j = 0
      · simp [P, h]
      · rw [if_pos h]
        simp only [hE, coe_sum]
        rw [Ideal.div_coe hD, ← EReal.coe_mul, ← Finset.sum_mul]
        congr 1
        have := (Real.exp_pos (-r)).ne'
        field_simp
    refine Finset.sum_congr rfl fun j _ => ?_
    rw [hW, ← mul_assoc, ← EReal.coe_mul, one_div_mul_eq_div]

end Cert.Attn
-- ==== Proof.Reads.lean ====
/- Hand-written. The entries of those blocks. -/
module

public import proofs.«01_k».proof.Proof.Blocks
public import proofs.«01_k».proof.Proof.Consts
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- An entry of the projection: the row of hidden states times the column of weights, plus the bias. -/
theorem pay0_apply (v2 : Vec Ideal S512x768 .f32) (v5 : Vec Ideal S768x3072 .bf16) (v8 : Vec Ideal S1x3072 .f32) (r : Fin 512) (c : Fin 3072) :
    k0_pay1 (F := Ideal) v2 v5 v8 (ix2 r c) = (∑ k : Fin 768, v2 (ix2 r k) * v5 (ix2 k c) + v8 (ix2 0 c) : EReal) := by
  pointwise [k0_pay1, dot_S512x768_S768x3072_S512x3072_1_0_0_1_n_n]

/-- The bias the body adds to a score: the mask less one, times the named constant, which denotes +∞. -/
theorem pay2_apply (v0 : Vec Ideal S1x512x2048 .f32) (r : Fin 512) (j : Fin 2048) :
    k1_pay2 (F := Ideal) v0 (ix2 r j) = ((v0 (ix3 0 r j) - 1) * ⊤ : EReal) := by
  have hn : Named.named (F := Ideal) Cert.KernelIdeal.κ "mask" (φ := .f32) 0x4E6E6B28#32 = ⊤ :=
    IdealRules.named_const.ideal_named_scalar _ _ _ _ rfl
  pointwise [k1_pay2]
  rw [hn]

/-- One head's payload at a query row and a lane, from its keys, queries and values, where column 64 of the values
    is all ones. -/
theorem pay7_apply (M : Vec Ideal S1x512x2048 .f32) (k : Vec Ideal S2048x64 .bf16) (q : Vec Ideal S512x64 .bf16) (v : Vec Ideal S2048x128 .bf16)
    (hone : ∀ j : Fin 2048, v (ix2 j 64) = (1 : EReal)) (r : Fin 512) (d : Fin 64) :
    k1_pay7 (F := Ideal) (k1_pay2 M) k q v (ix2 r d)
      = Attn.kerHead (fun e => q (ix2 r e)) (fun j e => k (ix2 j e)) (fun j => v (ix2 j ⟨d.val, by omega⟩)) (fun j => M (ix3 0 r j)) := by
  have hb := pay2_apply M
  generalize k1_pay2 (F := Ideal) M = b at hb ⊢
  pointwise [k1_pay7, dot_S512x64_S2048x64_S512x2048_1_1_0_0_n_n, dot_S512x2048_S2048x128_S512x128_1_0_0_1_n_n]
  simp only [hb, hone, mul_one, Attn.ofBits_eighth]
  rfl

/-- One head of the attention body at a query row and a lane, from the projected rows `X`: head `h`'s keys are columns
    `256 h + e`, its queries `256 h + 64 + e`, its values `256 h + 128 + d`, and column `256 h + 192` is all ones. -/
theorem head_apply (M : Vec Ideal S1x512x2048 .f32) (X : Vec Ideal S2048x3072 .bf16) (i : grid1.Coords) (h : Fin 12)
    (hone : ∀ j : Fin 2048, X (ix2 j ⟨256 * h.val + 192, by omega⟩) = (1 : EReal)) (r : Fin 512) (d : Fin 64)
    (hrow : 512 * (i 1).val + r.val < 2048) :
    head (k1_pay2 M) X i h (ix2 r d)
      = Attn.kerHead (fun e => X (ix2 ⟨512 * (i 1).val + r.val, hrow⟩ ⟨256 * h.val + 64 + e.val, by omega⟩))
          (fun j e => X (ix2 j ⟨256 * h.val + e.val, by omega⟩)) (fun j => X (ix2 j ⟨256 * h.val + 128 + d.val, by omega⟩)) (fun j => M (ix3 0 r j)) := by
  unfold head
  rw [pay7_apply]
  · have e : k1_off1 i 0 = 512 * (i 1).val := congrFun (k1_off1_eq i) 0
    pointwise
    simp only [e]
  · intro j
    pointwise
    exact hone j

/-- An entry of the output projection: lane `k` of the row is lane `k % 64` of head `k / 64`. -/
theorem heads_apply (f : Fin 12 → FVec Ideal S512x64 .f32) (x2 : Vec Ideal S768x768 .bf16) (x3 : Vec Ideal S1x768 .f32) (r : Fin 512) (o : Fin 768) :
    heads f x2 x3 (ix2 r o) = (∑ k : Fin 768, f ⟨k.val / 64, by omega⟩ (ix2 r ⟨k.val % 64, by omega⟩) * x2 (ix2 k o) + x3 (ix2 0 o) : EReal) := by
  unfold heads
  have hc : ∀ c : Fin 768, concatenate S512x768 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩] concatenates_S512x64_S512x64_S512x64_S512x64_S512x64_S512x64_S512x64_S512x64_S512x64_S512x64_S512x64_S512x64_S512x768_d1 (ix2 r c)
      = f ⟨c.val / 64, by omega⟩ (ix2 r ⟨c.val % 64, by omega⟩) := fun c =>
    concatenate_ofFn_apply (t := S512x768) (s₁ := S512x64) 1 f concatenates_S512x64_S512x64_S512x64_S512x64_S512x64_S512x64_S512x64_S512x64_S512x64_S512x64_S512x64_S512x64_S512x768_d1 rfl 64 rfl (ix2 r c) ⟨c.val / 64, by omega⟩ rfl _ rfl (fun b hb => by match b with | ⟨0, _⟩ => rfl | ⟨1, _⟩ => exact absurd rfl hb)
  generalize concatenate S512x768 1 _ _ = C at hc ⊢
  pointwise [dot_S512x768_S768x768_S512x768_1_0_0_1_n_n]
  simp only [hc]

end Cert.KernelIdeal.Value
-- ==== Proof.Arrays.lean ====
/- Hand-written. The arrays that the two kernels leave, from the blocks of every grid point. -/
module

public import proofs.«01_k».proof.Proof.Reads
public import Idealize.ShloMosaic.Lib.Pipeline.ValueKit.Geometry
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The projected rows as one array. -/
def proj (x : Vec Ideal S2048x1536 .f32) (w : Vec Ideal S768x3072 .bf16) (b : Vec Ideal S1x3072 .f32) : Vec Ideal S4096x3072 .bf16 := fun i =>
  (∑ k : Fin 768, x (ix2 ⟨(i 0).val % 2048, by omega⟩ ⟨768 * ((i 0).val / 2048) + k.val, by have : (i 0).val < 4096 := (i 0).isLt; omega⟩) * w (ix2 k (i 1)) + b (ix2 0 (i 1)) : EReal)

/-- After its region the first kernel's output array is the projected rows of its three input arrays. -/
theorem arr0_eq (c : Dev nD) :
    (dat0 V c).arrAt 3 cfg0.N = proj (V c main_v0) (V c main_v12) (V c main_v25) := by
  refine (dat0 V c).arrAt_eq_of_covers 3 _ (by decide +kernel) fun t hf y => ?_
  have e0 : win0_0.index t = ![(grid0.coords t 1).val, 0] := (by decide +kernel : ∀ t : Fin grid0.N, win0_0.index t = ![(grid0.coords t 1).val, 0]) t
  have e1 : win0_1.index t = ![0, 0] := (by decide +kernel : ∀ t : Fin grid0.N, win0_1.index t = ![0, 0]) t
  have e2 : win0_2.index t = ![0, 0] := (by decide +kernel : ∀ t : Fin grid0.N, win0_2.index t = ![0, 0]) t
  have e3 : win0_3.index t = ![(grid0.coords t 0).val * 4 + (grid0.coords t 1).val, 0] := (by decide +kernel : ∀ t : Fin grid0.N, win0_3.index t = ![(grid0.coords t 0).val * 4 + (grid0.coords t 1).val, 0]) t
  blk_simp
  rw [after0_3]
  unfold outsAt0
  rw [out0_eq]
  idx_bounds y
  idx_vars y
  rw [pay0_apply]
  unfold proj iblk0
  blk_simp [e0, e1, e2, e3, k0_off1_eq]
  have hi : (grid0.coords t 1).val < 4 := (grid0.coords t 1).isLt
  have hb : (grid0.coords t 0).val < 2 := (grid0.coords t 0).isLt
  refine congrArg₂ (· + ·) (Finset.sum_congr rfl fun k _ => congrArg₂ (· * ·) (congrArg (V c main_v0) ?_) (congrArg (V c main_v12) ?_)) (congrArg (V c main_v25) ?_)
  · have ho : k0_off1 (grid0.coords t) 1 = 768 * (grid0.coords t 0).val := congrFun (k0_off1_eq _) 1
    blk_ext [e0, e1, e2, e3, Rect.idx_unit_val, ho]
  · blk_ext [e0, e1, e2, e3]
  · blk_ext [e0, e1, e2, e3]

/-- Head `h`'s lane `d` of the attention at row `R` (batch `R / 2048`, position `R % 2048`), from the projected rows `X`
    and the mask `M`. -/
def attn (X : Vec Ideal S4096x3072 .bf16) (M : Vec Ideal S2x2048x2048 .f32) (R : Fin 4096) (h : Fin 12) (d : Fin 64) : EReal :=
  Attn.kerHead (fun e => X (ix2 R ⟨256 * h.val + 64 + e.val, by omega⟩))
    (fun j e => X (ix2 ⟨2048 * (R.val / 2048) + j.val, by omega⟩ ⟨256 * h.val + e.val, by omega⟩))
    (fun j => X (ix2 ⟨2048 * (R.val / 2048) + j.val, by omega⟩ ⟨256 * h.val + 128 + d.val, by omega⟩))
    (fun j => M (ix3 ⟨R.val / 2048, by omega⟩ ⟨R.val % 2048, by omega⟩ j))

/-- The output projection of the heads as one array. -/
def dense (X : Vec Ideal S4096x3072 .bf16) (M : Vec Ideal S2x2048x2048 .f32) (w : Vec Ideal S768x768 .bf16) (b : Vec Ideal S1x768 .f32) : Vec Ideal S4096x768 .f32 := fun i =>
  (∑ k : Fin 768, attn X M (i 0) ⟨k.val / 64, by omega⟩ ⟨k.val % 64, by omega⟩ * w (ix2 k (i 1)) + b (ix2 0 (i 1)) : EReal)

/-- After its region the second kernel's output array is the output projection of the heads, where the projected rows
    have ones in every head's column 192. -/
theorem arr1_eq (c : Dev nD) (hone : ∀ (R : Fin 4096) (h : Fin 12), (V c main_v27 : Vec Ideal S4096x3072 .bf16) (ix2 R ⟨256 * h.val + 192, by omega⟩) = (1 : EReal)) :
    (dat1 V c).arrAt 4 cfg1.N = dense (V c main_v27) (V c main_v1) (V c main_v26) (V c main_v28) := by
  refine (dat1 V c).arrAt_eq_of_covers 4 _ (by decide +kernel) fun t hf y => ?_
  have e0 : win1_0.index t = ![(grid1.coords t 0).val, 0] := (by decide +kernel : ∀ t : Fin grid1.N, win1_0.index t = ![(grid1.coords t 0).val, 0]) t
  have e1 : win1_1.index t = ![(grid1.coords t 0).val, (grid1.coords t 1).val, 0] := (by decide +kernel : ∀ t : Fin grid1.N, win1_1.index t = ![(grid1.coords t 0).val, (grid1.coords t 1).val, 0]) t
  have e2 : win1_2.index t = ![0, 0] := (by decide +kernel : ∀ t : Fin grid1.N, win1_2.index t = ![0, 0]) t
  have e3 : win1_3.index t = ![0, 0] := (by decide +kernel : ∀ t : Fin grid1.N, win1_3.index t = ![0, 0]) t
  have e4 : win1_4.index t = ![(grid1.coords t 0).val * 4 + (grid1.coords t 1).val, 0] := (by decide +kernel : ∀ t : Fin grid1.N, win1_4.index t = ![(grid1.coords t 0).val * 4 + (grid1.coords t 1).val, 0]) t
  blk_simp
  rw [after1_4]
  unfold outsAt1
  rw [out1_eq]
  idx_bounds y
  idx_vars y
  have hi : (grid1.coords t 1).val < 4 := (grid1.coords t 1).isLt
  have hb : (grid1.coords t 0).val < 2 := (grid1.coords t 0).isLt
  rw [heads_apply]
  have hX : ∀ (j : Fin 2048) (q : Fin 3072), (iblk1 V c 0 t : Vec Ideal S2048x3072 .bf16) (ix2 j q) = (V c main_v27 : Vec Ideal S4096x3072 .bf16) (ix2 ⟨2048 * (grid1.coords t 0).val + j.val, by omega⟩ q) := by
    intro j q
    unfold iblk1
    blk_simp [e0]
    refine congrArg (V c main_v27) ?_
    blk_ext [e0]
  have hM : ∀ (r : Fin 512) (j : Fin 2048), (iblk1 V c 1 t : Vec Ideal S1x512x2048 .f32) (ix3 0 r j) = (V c main_v1 : Vec Ideal S2x2048x2048 .f32) (ix3 (grid1.coords t 0) ⟨512 * (grid1.coords t 1).val + r.val, by omega⟩ j) := by
    intro r j
    unfold iblk1
    blk_simp [e1]
    refine congrArg (V c main_v1) ?_
    blk_ext [e1]
  have hE : (win1_4.blk t).view.emb (ix2 y0 y1) = (ix2 ⟨2048 * (grid1.coords t 0).val + (512 * (grid1.coords t 1).val + y0.val), by omega⟩ y1 : S4096x768.Idx) := by
    blk_ext [e4]
  rw [hE]
  unfold dense
  refine congrArg₂ (· + ·) (Finset.sum_congr rfl fun k _ => congrArg₂ (· * ·) ?_ ?_) ?_
  · rw [head_apply _ _ _ _ (fun j => (hX j _).trans (hone _ _)) y0 _ (by omega)]
    unfold attn
    simp only [hX, hM]
    have hd : (2048 * (grid1.coords t 0).val + (512 * (grid1.coords t 1).val + y0.val)) / 2048 = (grid1.coords t 0).val := by omega
    have hm : (2048 * (grid1.coords t 0).val + (512 * (grid1.coords t 1).val + y0.val)) % 2048 = 512 * (grid1.coords t 1).val + y0.val := by omega
    simp only [ix2_0, ix2_1, hd, hm]
    rfl
  · unfold iblk1
    blk_simp [e2]
    refine congrArg (V c main_v26) ?_
    blk_ext [e2]
  · unfold iblk1
    blk_simp [e3]
    refine congrArg (V c main_v28) ?_
    blk_ext [e3]

end Cert.KernelIdeal.Value
-- ==== Proof.Host.lean ====
/- Hand-written. The host operations around the kernels: what each kernel finds in its arrays, entry by entry. -/
module

public import proofs.«01_k».proof.Proof.Arrays
public import Idealize.ShloMosaic.Lib.Routing.OpsOne
public import Idealize.ShloMosaic.Lib.Tactic.CleanTypes

@[expose] public section

set_option maxRecDepth 16384

noncomputable section

open Idealize.ShloMosaic Idealize.ShloMosaic.TcCoe Idealize.SL.Sem

namespace Cert.KernelIdeal.Value

open Cert.KernelIdeal Cert.KernelIdeal.Gen

/-- The weights as the first kernel takes them, from the weights by head and by query, key, value. -/
def wext (w4 : Vec Ideal S768x12x3x64 .f32) : Vec Ideal S768x3072 .bf16 :=
  truncf .bf16 (shapeCast S768x3072 (concatenate S768x12x256 2
    [⟨S768x12x64, shapeCast S768x12x64 (extractStridedSlice S768x12x1x64 ![0, 0, 1, 0] w4 slices_S768x12x3x64_S768x12x1x64_0_0_1_0) shapeCasts_S768x12x1x64_S768x12x64⟩,
     ⟨S768x12x64, shapeCast S768x12x64 (extractStridedSlice S768x12x1x64 ![0, 0, 0, 0] w4 slices_S768x12x3x64_S768x12x1x64_0_0_0_0) shapeCasts_S768x12x1x64_S768x12x64⟩,
     ⟨S768x12x64, shapeCast S768x12x64 (extractStridedSlice S768x12x1x64 ![0, 0, 2, 0] w4 slices_S768x12x3x64_S768x12x1x64_0_0_2_0) shapeCasts_S768x12x1x64_S768x12x64⟩,
     ⟨S768x12x64, broadcastInDim S768x12x64 ![] bcast_S_S768x12x64 (constant (F := Ideal) S_ .f32 0x00000000#32)⟩]
    concatenates_S768x12x64_S768x12x64_S768x12x64_S768x12x64_S768x12x256_d2) shapeCasts_S768x12x256_S768x3072) bitsLt_bf16_f32

/-- Zeros with a first column of ones. -/
def ones : Vec Ideal S12x64 .f32 :=
  Host.scatter scatter_S12x64_S1_S12_0_1_1_0 (fun _ b => b) (broadcastInDim S12x64 ![] bcast_S_S12x64 (constant (F := Ideal) S_ .f32 0x00000000#32))
    (broadcastInDim S1 ![] bcast_S_S1 (constantI S_ 32 0#32)) (broadcastInDim S12 ![] bcast_S_S12 (constant (F := Ideal) S_ .f32 0x3F800000#32))

/-- The bias as the first kernel takes it, from the bias by head and by query, key, value. -/
def bext (b4 : Vec Ideal S12x3x64 .f32) : Vec Ideal S1x3072 .f32 :=
  shapeCast S1x3072 (concatenate S12x256 1
    [⟨S12x64, shapeCast S12x64 (extractStridedSlice S12x1x64 ![0, 1, 0] b4 slices_S12x3x64_S12x1x64_0_1_0) shapeCasts_S12x1x64_S12x64⟩,
     ⟨S12x64, shapeCast S12x64 (extractStridedSlice S12x1x64 ![0, 0, 0] b4 slices_S12x3x64_S12x1x64_0_0_0) shapeCasts_S12x1x64_S12x64⟩,
     ⟨S12x64, shapeCast S12x64 (extractStridedSlice S12x1x64 ![0, 2, 0] b4 slices_S12x3x64_S12x1x64_0_2_0) shapeCasts_S12x1x64_S12x64⟩,
     ⟨S12x64, ones⟩]
    concatenates_S12x64_S12x64_S12x64_S12x64_S12x256_d1) shapeCasts_S12x256_S1x3072

section Arrays

variable (m : (ℓ : Loc nD τ sig) → Buf (Elt Ideal) ℓ) (ρ : Dev nD → PrngReg)

/-- The first kernel finds the hidden states with the batch entries side by side. -/
theorem V1_v0 (c : Dev nD) : V1 m ρ c main_v0 = (shapeCast S2048x1536 (m (c.tc.loc main_arg0) : Vec Ideal S2048x2x768 .f32) shapeCasts_S2048x2x768_S2048x1536 : Vec Ideal S2048x1536 .f32) := by
  show StableHlo.after hostOps0 (W0 m ρ c) (Proc.devRef .tc main_v0) = _
  after_results
  rfl

/-- The second kernel's mask is the argument without its unit axis. -/
theorem V1_v1 (c : Dev nD) : V1 m ρ c main_v1 = (shapeCast S2x2048x2048 (m (c.tc.loc main_arg1) : Vec Ideal S2x1x2048x2048 .f32) shapeCasts_S2x1x2048x2048_S2x2048x2048 : Vec Ideal S2x2048x2048 .f32) := by
  show StableHlo.after hostOps0 (W0 m ρ c) (Proc.devRef .tc main_v1) = _
  after_results
  rfl

/-- … the weights rearranged per head as key, query, value and zeros, -/
theorem V1_v12 (c : Dev nD) : V1 m ρ c main_v12 = wext (shapeCast S768x12x3x64 (m (c.tc.loc main_arg2) : Vec Ideal S768x2304 .f32) shapeCasts_S768x2304_S768x12x3x64) := by
  show StableHlo.after hostOps0 (W0 m ρ c) (Proc.devRef .tc main_v12) = _
  after_results
  rfl

/-- … and the bias rearranged likewise, with a one after the values. -/
theorem V1_v25 (c : Dev nD) : V1 m ρ c main_v25 = bext (shapeCast S12x3x64 (m (c.tc.loc main_arg3) : Vec Ideal S2304 .f32) shapeCasts_S2304_S12x3x64) := by
  show StableHlo.after hostOps0 (W0 m ρ c) (Proc.devRef .tc main_v25) = _
  after_results
  rfl

/-- The second kernel's output weights are the argument, cast. -/
theorem V1_v26 (c : Dev nD) : V1 m ρ c main_v26 = (truncf (F := Ideal) .bf16 (m (c.tc.loc main_arg4) : FVec Ideal S768x768 .f32) bitsLt_bf16_f32 : FVec Ideal S768x768 .bf16) := by
  show StableHlo.after hostOps0 (W0 m ρ c) (Proc.devRef .tc main_v26) = _
  after_results

/-- The second kernel finds the projected rows that the first one wrote, -/
theorem V3_v27 (c : Dev nD) : V3 m ρ c main_v27 = proj (V1 m ρ c main_v0) (V1 m ρ c main_v12) (V1 m ρ c main_v25) :=
  ((W3_of m ρ c main_v27 (by decide)).trans (W2_arr m ρ c 3)).trans (arr0_eq (V1 m ρ) c)

/-- … the mask as it was before the first kernel, -/
theorem V3_v1 (c : Dev nD) : V3 m ρ c main_v1 = V1 m ρ c main_v1 :=
  (W3_of m ρ c main_v1 (by decide)).trans (W2_of m ρ c main_v1 (by decide))

/-- … the output weights likewise, -/
theorem V3_v26 (c : Dev nD) : V3 m ρ c main_v26 = V1 m ρ c main_v26 :=
  (W3_of m ρ c main_v26 (by decide)).trans (W2_of m ρ c main_v26 (by decide))

/-- … and the output bias as a row. -/
theorem V3_v28 (c : Dev nD) : V3 m ρ c main_v28 = (shapeCast S1x768 (m (c.tc.loc main_arg5) : Vec Ideal S768 .f32) shapeCasts_S768_S1x768 : Vec Ideal S1x768 .f32) := by
  show StableHlo.after hostOps1 (W2 m ρ c) (Proc.devRef .tc main_v28) = _
  after_results
  rw [W2_args m ρ c main_arg5 (by decide)]
  rfl

/-- The result is the second kernel's array, split by batch entry, with position and batch entry exchanged. -/
theorem W5_v31 (c : Dev nD) : W5 m ρ c (Proc.devRef .tc main_v31)
    = (transpose S2048x2x768 [1, 0, 2] (shapeCast S2x2048x768 ((dat1 (V3 m ρ) c).arrAt 4 cfg1.N : Vec Ideal S4096x768 .f32) shapeCasts_S4096x768_S2x2048x768) transposes_S2x2048x768_S2048x2x768_1_0_2 : Vec Ideal S2048x2x768 .f32) := by
  show StableHlo.after hostOps2 (W4 m ρ c) (Proc.devRef .tc main_v31) = _
  after_results
  rw [show W4 m ρ c (Proc.devRef .tc main_v29) = _ from W4_arr m ρ c 4]
  rfl

end Arrays

/-! ## The weights and the bias at an index -/

/-- Head `h`'s key columns of the kernel's weights. -/
theorem wext_k (W : Vec Ideal S768x2304 .f32) (k : Fin 768) (h : Fin 12) (e : Fin 64) :
    wext (shapeCast S768x12x3x64 W shapeCasts_S768x2304_S768x12x3x64) (ix2 k ⟨256 * h.val + e.val, by omega⟩) = W (ix2 k ⟨192 * h.val + 64 + e.val, by omega⟩) := by
  pointwise [wext]
  rw [dif_pos (by omega)]
  exact congrArg W (by blk_ext)

/-- Head `h`'s query columns of the kernel's weights. -/
theorem wext_q (W : Vec Ideal S768x2304 .f32) (k : Fin 768) (h : Fin 12) (e : Fin 64) :
    wext (shapeCast S768x12x3x64 W shapeCasts_S768x2304_S768x12x3x64) (ix2 k ⟨256 * h.val + 64 + e.val, by omega⟩) = W (ix2 k ⟨192 * h.val + e.val, by omega⟩) := by
  pointwise [wext]
  rw [dif_neg (by omega), dif_pos (by omega)]
  exact congrArg W (by blk_ext)

/-- Head `h`'s value columns of the kernel's weights. -/
theorem wext_v (W : Vec Ideal S768x2304 .f32) (k : Fin 768) (h : Fin 12) (e : Fin 64) :
    wext (shapeCast S768x12x3x64 W shapeCasts_S768x2304_S768x12x3x64) (ix2 k ⟨256 * h.val + 128 + e.val, by omega⟩) = W (ix2 k ⟨192 * h.val + 128 + e.val, by omega⟩) := by
  pointwise [wext]
  rw [dif_neg (by omega), dif_neg (by omega), dif_pos (by omega)]
  exact congrArg W (by blk_ext)

/-- Head `h`'s column of ones has zero weights. -/
theorem wext_1 (W : Vec Ideal S768x2304 .f32) (k : Fin 768) (h : Fin 12) :
    wext (shapeCast S768x12x3x64 W shapeCasts_S768x2304_S768x12x3x64) (ix2 k ⟨256 * h.val + 192, by omega⟩) = (0 : EReal) := by
  pointwise [wext]
  rw [dif_neg (by omega), dif_neg (by omega), dif_neg (by omega)]

/-- The first column of `ones` holds ones. -/
theorem ones_0 (h : Fin 12) : ones (ix2 h 0) = (1 : EReal) := by
  unfold ones
  refine (Routing.scatter_set_hit _ _ _ _ (ix2 h 0) (1 : EReal) (fun k _ => ?_) (ix1 h) ?_)
  · pointwise
  · rw [ix2_eq_valueIdx, ix1_eq_valueIdx]
    exact (Routing.lands_col scatter_S12x64_S1_S12_0_1_1_0 rfl rfl _ 0 (by rfl) h h 0).2 ⟨rfl, rfl⟩

/-- Head `h`'s key lanes of the kernel's bias. -/
theorem bext_k (b : Vec Ideal S2304 .f32) (h : Fin 12) (e : Fin 64) :
    bext (shapeCast S12x3x64 b shapeCasts_S2304_S12x3x64) (ix2 0 ⟨256 * h.val + e.val, by omega⟩) = b (ix1 ⟨192 * h.val + 64 + e.val, by omega⟩) := by
  pointwise [bext]
  rw [dif_pos (by omega)]
  exact congrArg b (by blk_ext)

/-- Head `h`'s query lanes of the kernel's bias. -/
theorem bext_q (b : Vec Ideal S2304 .f32) (h : Fin 12) (e : Fin 64) :
    bext (shapeCast S12x3x64 b shapeCasts_S2304_S12x3x64) (ix2 0 ⟨256 * h.val + 64 + e.val, by omega⟩) = b (ix1 ⟨192 * h.val + e.val, by omega⟩) := by
  pointwise [bext]
  rw [dif_neg (by omega), dif_pos (by omega)]
  exact congrArg b (by blk_ext)

/-- Head `h`'s value lanes of the kernel's bias. -/
theorem bext_v (b : Vec Ideal S2304 .f32) (h : Fin 12) (e : Fin 64) :
    bext (shapeCast S12x3x64 b shapeCasts_S2304_S12x3x64) (ix2 0 ⟨256 * h.val + 128 + e.val, by omega⟩) = b (ix1 ⟨192 * h.val + 128 + e.val, by omega⟩) := by
  pointwise [bext]
  rw [dif_neg (by omega), dif_neg (by omega), dif_pos (by omega)]
  exact congrArg b (by blk_ext)

/-- Head `h`'s lane of ones of the kernel's bias. -/
theorem bext_1 (b : Vec Ideal S2304 .f32) (h : Fin 12) :
    bext (shapeCast S12x3x64 b shapeCasts_S2304_S12x3x64) (ix2 0 ⟨256 * h.val + 192, by omega⟩) = (1 : EReal) := by
  pointwise [bext]
  rw [dif_neg (by omega), dif_neg (by omega), dif_neg (by omega)]
  refine Eq.trans (congrArg ones ?_) (ones_0 h)
  blk_ext

end Cert.KernelIdeal.Value
-- ==== Proof.Result.lean ====
/- Hand-written. The kernel program's result array, entry by entry, as a formula of the arguments. -/
module

public import proofs.«01_k».proof.Proof.Host

@[expose] public section

set_option maxRecDepth 16384

noncomputable section

open Idealize.ShloMosaic Idealize.ShloMosaic.TcCoe Idealize.SL.Sem

namespace Cert.KernelIdeal.Value

open Cert.KernelIdeal Cert.KernelIdeal.Gen

/-- Column `q` of the query, key and value projection of position `s` of batch `b`. -/
def col (x : Vec Ideal S2048x2x768 .f32) (W : Vec Ideal S768x2304 .f32) (bq : Vec Ideal S2304 .f32) (s : Fin 2048) (b : Fin 2) (q : Fin 2304) : EReal :=
  ∑ k : Fin 768, x (ix3 s b k) * W (ix2 k q) + bq (ix1 q)

/-- Attention at position `s` of batch `b`, head `h`, lane `d`, where `f` takes the head's query row, keys, one lane of
    the values and mask row. -/
def lane (f : (Fin 64 → EReal) → (Fin 2048 → Fin 64 → EReal) → (Fin 2048 → EReal) → (Fin 2048 → EReal) → EReal)
    (x : Vec Ideal S2048x2x768 .f32) (M : Vec Ideal S2x1x2048x2048 .f32) (W : Vec Ideal S768x2304 .f32) (bq : Vec Ideal S2304 .f32)
    (s : Fin 2048) (b : Fin 2) (h : Fin 12) (d : Fin 64) : EReal :=
  f (fun e => col x W bq s b ⟨192 * h.val + e.val, by omega⟩) (fun j e => col x W bq j b ⟨192 * h.val + 64 + e.val, by omega⟩)
    (fun j => col x W bq j b ⟨192 * h.val + 128 + d.val, by omega⟩) (fun j => M (ix4 b 0 s j))

/-- The whole result at position `s` of batch `b`, output lane `o`: the heads' lanes through the output projection. -/
def outp (f : (Fin 64 → EReal) → (Fin 2048 → Fin 64 → EReal) → (Fin 2048 → EReal) → (Fin 2048 → EReal) → EReal)
    (x : Vec Ideal S2048x2x768 .f32) (M : Vec Ideal S2x1x2048x2048 .f32) (W : Vec Ideal S768x2304 .f32) (bq : Vec Ideal S2304 .f32)
    (Wd : Vec Ideal S768x768 .f32) (bd : Vec Ideal S768 .f32) (s : Fin 2048) (b : Fin 2) (o : Fin 768) : EReal :=
  ∑ k : Fin 768, lane f x M W bq s b ⟨k.val / 64, by omega⟩ ⟨k.val % 64, by omega⟩ * Wd (ix2 k o) + bd (ix1 o)

variable (m : (ℓ : Loc nD τ sig) → Buf (Elt Ideal) ℓ) (ρ : Dev nD → PrngReg)

/-- The projected rows as the second kernel finds them. -/
abbrev rows (c : Dev nD) : Vec Ideal S4096x3072 .bf16 :=
  proj (shapeCast S2048x1536 (m (c.tc.loc main_arg0) : Vec Ideal S2048x2x768 .f32) shapeCasts_S2048x2x768_S2048x1536)
    (wext (shapeCast S768x12x3x64 (m (c.tc.loc main_arg2) : Vec Ideal S768x2304 .f32) shapeCasts_S768x2304_S768x12x3x64))
    (bext (shapeCast S12x3x64 (m (c.tc.loc main_arg3) : Vec Ideal S2304 .f32) shapeCasts_S2304_S12x3x64))

/-- The second kernel finds these rows. -/
theorem rows_eq (c : Dev nD) : V3 m ρ c main_v27 = rows m c := by
  rw [V3_v27, V1_v0, V1_v12, V1_v25]

/-- An entry of the hidden states laid out with the batches side by side. -/
theorem hs_apply (x : Vec Ideal S2048x2x768 .f32) (s : Fin 2048) (b : Fin 2) (k : Fin 768) :
    shapeCast S2048x1536 x shapeCasts_S2048x2x768_S2048x1536 (ix2 s ⟨768 * b.val + k.val, by omega⟩) = x (ix3 s b k) := by
  pointwise

/-- An entry of the mask without its unit axis. -/
theorem mask_apply (M : Vec Ideal S2x1x2048x2048 .f32) (b : Fin 2) (s j : Fin 2048) :
    shapeCast S2x2048x2048 M shapeCasts_S2x1x2048x2048_S2x2048x2048 (ix3 b s j) = M (ix4 b 0 s j) := by
  pointwise

/-- An entry of the output bias as a row. -/
theorem bd_apply (v : Vec Ideal S768 .f32) (o : Fin 768) : shapeCast S1x768 v shapeCasts_S768_S1x768 (ix2 0 o) = v (ix1 o) := by
  pointwise

/-- An entry of the rows of both batches laid out by position first. -/
theorem last_apply (Y : Vec Ideal S4096x768 .f32) (s : Fin 2048) (b : Fin 2) (o : Fin 768) :
    transpose S2048x2x768 [1, 0, 2] (shapeCast S2x2048x768 Y shapeCasts_S4096x768_S2x2048x768) transposes_S2x2048x768_S2048x2x768_1_0_2 (ix3 s b o)
      = Y (ix2 ⟨b.val * 2048 + s.val, by omega⟩ o) := by
  pointwise

/-- A projected column of row `R`, from the column of the weights and of the bias that it is taken from. -/
theorem rows_col (c : Dev nD) (R : Fin 4096) (q : Fin 3072) (q' : Fin 2304)
    (hw : ∀ k : Fin 768, wext (shapeCast S768x12x3x64 (m (c.tc.loc main_arg2) : Vec Ideal S768x2304 .f32) shapeCasts_S768x2304_S768x12x3x64) (ix2 k q) = (m (c.tc.loc main_arg2) : Vec Ideal S768x2304 .f32) (ix2 k q'))
    (hb : bext (shapeCast S12x3x64 (m (c.tc.loc main_arg3) : Vec Ideal S2304 .f32) shapeCasts_S2304_S12x3x64) (ix2 0 q) = (m (c.tc.loc main_arg3) : Vec Ideal S2304 .f32) (ix1 q')) :
    rows m c (ix2 R q) = col (m (c.tc.loc main_arg0)) (m (c.tc.loc main_arg2)) (m (c.tc.loc main_arg3)) ⟨R.val % 2048, by omega⟩ ⟨R.val / 2048, by omega⟩ q' := by
  unfold rows proj col
  refine congrArg₂ (· + ·) (Finset.sum_congr rfl fun k _ => congrArg₂ (· * ·) ?_ (hw k)) hb
  exact hs_apply _ ⟨R.val % 2048, by omega⟩ ⟨R.val / 2048, by omega⟩ k

/-- Every head's column 192 of the projected rows is all ones. -/
theorem rows_one (c : Dev nD) (R : Fin 4096) (h : Fin 12) : rows m c (ix2 R ⟨256 * h.val + 192, by omega⟩) = (1 : EReal) := by
  unfold rows proj
  refine (congrArg₂ (· + ·) (Finset.sum_eq_zero fun k _ => ?_) (bext_1 _ h)).trans (zero_add _)
  exact (congrArg _ (wext_1 _ k h)).trans (mul_zero _)

/-- The projected rows' attention is the attention of the projections. -/
theorem attn_rows (c : Dev nD) (s : Fin 2048) (b : Fin 2) (h : Fin 12) (d : Fin 64) :
    attn (rows m c) (shapeCast S2x2048x2048 (m (c.tc.loc main_arg1) : Vec Ideal S2x1x2048x2048 .f32) shapeCasts_S2x1x2048x2048_S2x2048x2048) ⟨b.val * 2048 + s.val, by omega⟩ h d
      = lane Attn.kerHead (m (c.tc.loc main_arg0)) (m (c.tc.loc main_arg1)) (m (c.tc.loc main_arg2)) (m (c.tc.loc main_arg3)) s b h d := by
  have hd : (b.val * 2048 + s.val) / 2048 = b.val := by omega
  have hm : (b.val * 2048 + s.val) % 2048 = s.val := by omega
  have hd' : ∀ j : Fin 2048, (2048 * b.val + j.val) / 2048 = b.val := fun j => by omega
  have hm' : ∀ j : Fin 2048, (2048 * b.val + j.val) % 2048 = j.val := fun j => by omega
  unfold attn lane
  simp only [hd, hm]
  congr 1
  · funext e
    rw [rows_col m c _ _ _ (fun k => wext_q _ k h e) (bext_q _ h e)]
    simp only [hd, hm]
  · funext j e
    rw [rows_col m c _ _ _ (fun k => wext_k _ k h e) (bext_k _ h e)]
    simp only [hd', hm']
  · funext j
    rw [rows_col m c _ _ _ (fun k => wext_v _ k h d) (bext_v _ h d)]
    simp only [hd', hm']
  · funext j
    exact mask_apply _ b s j

/-- The kernel program's result at an index. -/
theorem result_apply (c : Dev nD) (s : Fin 2048) (b : Fin 2) (o : Fin 768) :
    (W5 m ρ c (Proc.devRef .tc main_v31) : Vec Ideal S2048x2x768 .f32) (ix3 s b o)
      = outp Attn.kerHead (m (c.tc.loc main_arg0)) (m (c.tc.loc main_arg1)) (m (c.tc.loc main_arg2)) (m (c.tc.loc main_arg3)) (m (c.tc.loc main_arg4)) (m (c.tc.loc main_arg5)) s b o := by
  rw [W5_v31, arr1_eq (V3 m ρ) c (fun R h => by rw [rows_eq]; exact rows_one m c R h), rows_eq, V3_v1, V1_v1, V3_v26, V1_v26, V3_v28]
  rw [last_apply]
  unfold dense outp
  refine congrArg₂ (· + ·) (Finset.sum_congr rfl fun k _ => congrArg₂ (· * ·) ?_ rfl) ?_
  · exact attn_rows m c s b _ _
  · exact bd_apply _ o

end Cert.KernelIdeal.Value
-- ==== Proof.Finite.lean ====
/- Hand-written. Where the precondition holds, the two formulas agree. -/
module

public import proofs.«01_k».proof.Proof.Result
public import proofs.«01_k».proof.Proof.Gen.Pre_finite_masked

@[expose] public section

set_option maxRecDepth 16384

noncomputable section

open Idealize.ShloMosaic Idealize.ShloMosaic.TcCoe Idealize.SL.Sem

namespace Cert.KernelIdeal.Value

open Cert.KernelIdeal Cert.KernelIdeal.Gen

/-- A value whose magnitude is below +∞ is a real. -/
theorem real_of_abs {a : EReal} (h : BitVec.ofBool (decide (FloatOps.absf (F := Ideal) (φ := .f32) a < Ideal.ofBits .f32 2139095040#32)) = 1#1) : ∃ r : ℝ, a = r := by
  have hlt : max a (-a) < ⊤ := by
    by_contra hn
    have hn' : ¬ FloatOps.absf (F := Ideal) (φ := .f32) a < Ideal.ofBits .f32 2139095040#32 := by
      rw [Attn.ofBits_inf]; exact hn
    simp [hn'] at h
  induction a with
  | bot => simp at hlt
  | top => simp at hlt
  | coe r => exact ⟨r, rfl⟩

/-- A value that compares equal to zero or to one is zero or one. -/
theorem zero_or_one {a : EReal} (h : IntOp.ori (BitVec.ofBool (decide (a = 0))) (BitVec.ofBool (decide (a = 1))) = 1#1) : a = 0 ∨ a = 1 := by
  by_contra hn
  obtain ⟨h0, h1⟩ := not_or.1 hn
  simp [h0, h1, IntOp.ori] at h

/-- Finite hidden states and one finite column of the weights and of the bias give a finite column of the projection. -/
theorem col_real (x : Vec Ideal S2048x2x768 .f32) (W : Vec Ideal S768x2304 .f32) (bq : Vec Ideal S2304 .f32) (q : Fin 2304)
    (hx : ∀ i, ∃ r : ℝ, x i = (r : EReal)) (hW : ∀ k, ∃ r : ℝ, W (ix2 k q) = (r : EReal)) (hb : ∃ r : ℝ, bq (ix1 q) = (r : EReal))
    (s : Fin 2048) (b : Fin 2) : ∃ r : ℝ, col x W bq s b q = r := by
  choose fx ex using hx
  choose fW eW using hW
  obtain ⟨fb, eb⟩ := hb
  refine ⟨∑ k : Fin 768, fx (ix3 s b k) * fW k + fb, ?_⟩
  unfold col
  simp only [ex, eW, eb]
  rw [EReal.coe_add, ← Attn.coe_sum]
  simp only [EReal.coe_mul]

/-- On finite hidden states, finite query and key columns of the weights and the bias, and a mask of zeros and ones, the
    kernel's formula is the reference's. -/
theorem outp_eq (x : Vec Ideal S2048x2x768 .f32) (M : Vec Ideal S2x1x2048x2048 .f32) (W : Vec Ideal S768x2304 .f32) (bq : Vec Ideal S2304 .f32)
    (Wd : Vec Ideal S768x768 .f32) (bd : Vec Ideal S768 .f32)
    (hx : ∀ i, ∃ r : ℝ, x i = (r : EReal)) (hM : ∀ i, M i = (0 : EReal) ∨ M i = (1 : EReal))
    (hW : ∀ (k : Fin 768) (h : Fin 12) (p : Fin 2) (e : Fin 64), ∃ r : ℝ, W (ix2 k ⟨192 * h.val + 64 * p.val + e.val, by omega⟩) = (r : EReal))
    (hb : ∀ (h : Fin 12) (p : Fin 2) (e : Fin 64), ∃ r : ℝ, bq (ix1 ⟨192 * h.val + 64 * p.val + e.val, by omega⟩) = (r : EReal))
    (s : Fin 2048) (b : Fin 2) (o : Fin 768) : outp Attn.kerHead x M W bq Wd bd s b o = outp Attn.refHead x M W bq Wd bd s b o := by
  have hl : ∀ h d, lane Attn.kerHead x M W bq s b h d = lane Attn.refHead x M W bq s b h d := fun h d => by
    choose fq hq using fun e : Fin 64 => col_real x W bq _ hx (fun k => hW k h 0 e) (hb h 0 e) s b
    choose fk hk using fun (j : Fin 2048) (e : Fin 64) => col_real x W bq _ hx (fun k => hW k h 1 e) (hb h 1 e) j b
    have eq : (fun e : Fin 64 => col x W bq s b ⟨192 * h.val + e.val, by omega⟩) = fun e => (fq e : EReal) := funext hq
    have ek : (fun (j : Fin 2048) (e : Fin 64) => col x W bq j b ⟨192 * h.val + 64 + e.val, by omega⟩) = fun j e => (fk j e : EReal) :=
      funext fun j => funext (hk j)
    unfold lane
    rw [eq, ek]
    exact Attn.kerHead_eq_refHead _ _ _ _ fun j => hM _
  unfold outp
  simp only [hl]

/-- What the precondition says of the arguments' elements. -/
theorem pre_reads (x : FVec Ideal S2048x2x768 .f32) (M : FVec Ideal S2x1x2048x2048 .f32) (W : FVec Ideal S768x2304 .f32) (bq : FVec Ideal S2304 .f32)
    (Wd : FVec Ideal S768x768 .f32) (bd : FVec Ideal S768 .f32)
    (h1 : (Cert.Pre_finite_masked.fn (F := Ideal) x M W bq Wd bd).1 = fun _ => 1#1)
    (h2 : (Cert.Pre_finite_masked.fn (F := Ideal) x M W bq Wd bd).2.1 = fun _ => 1#1)
    (h3 : (Cert.Pre_finite_masked.fn (F := Ideal) x M W bq Wd bd).2.2.1 = fun _ => 1#1)
    (h4 : (Cert.Pre_finite_masked.fn (F := Ideal) x M W bq Wd bd).2.2.2 = fun _ => 1#1) :
    (∀ i, ∃ r : ℝ, x i = (r : EReal)) ∧ (∀ i, M i = (0 : EReal) ∨ M i = (1 : EReal))
      ∧ (∀ (k : Fin 768) (h : Fin 12) (p : Fin 2) (e : Fin 64), ∃ r : ℝ, W (ix2 k ⟨192 * h.val + 64 * p.val + e.val, by omega⟩) = (r : EReal))
      ∧ (∀ (h : Fin 12) (p : Fin 2) (e : Fin 64), ∃ r : ℝ, bq (ix1 ⟨192 * h.val + 64 * p.val + e.val, by omega⟩) = (r : EReal)) := by
  refine ⟨fun i => ?_, fun i => ?_, fun k h p e => ?_, fun h p e => ?_⟩
  · have h := congrFun h1 i
    idx_vars i
    pointwise [Cert.Pre_finite_masked.fn] at h
    exact real_of_abs h
  · have h := congrFun h2 i
    idx_vars i
    pointwise [Cert.Pre_finite_masked.fn] at h
    exact zero_or_one h
  · have h := congrFun h3 (ix4 k h p e)
    pointwise [Cert.Pre_finite_masked.fn] at h
    simpa only [mul_comm] using real_of_abs h
  · have h := congrFun h4 (ix3 h p e)
    pointwise [Cert.Pre_finite_masked.fn] at h
    simpa only [mul_comm] using real_of_abs h

end Cert.KernelIdeal.Value
-- ==== Proof.Ref.lean ====
/- Hand-written. The reference's result array, entry by entry, as the same formula with the reference's head. -/
module

public import proofs.«01_k».proof.Proof.Result
public import proofs.«01_k».proof.Proof.Gen.ReferenceIdeal.Read
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read
open Cert.KernelIdeal.Value (col lane outp)

variable (x0 : Vec Ideal S2048x2x768 .f32) (x1 : Vec Ideal S2x1x2048x2048 .f32) (x2 : Vec Ideal S768x2304 .f32) (x3 : Vec Ideal S2304 .f32)
  (x4 : Vec Ideal S768x768 .f32) (x5 : Vec Ideal S768 .f32)

/-- The reference's projection at an index. -/
theorem v4_apply (b : Fin 2) (s : Fin 2048) (q : Fin 2304) : val_main_v4 (F := Ideal) x0 x2 x3 (ix3 b s q) = col x0 x2 x3 s b q := by
  unfold col
  pointwise [val_main_v4, val_main_v3, val_main_v2, val_main_v1, val_main_v0, dot_S2x2048x768_S768x2304_S2x2048x2304_2_0_01_1_n_n]

/-- The reference's queries at an index: batch and head are one axis. -/
theorem v10_apply (b : Fin 2) (h : Fin 12) (s : Fin 2048) (e : Fin 64) :
    val_main_v10 (F := Ideal) x0 x2 x3 (ix3 ⟨b.val * 12 + h.val, by omega⟩ s e) = col x0 x2 x3 s b ⟨192 * h.val + e.val, by omega⟩ := by
  have h4 := v4_apply x0 x2 x3
  unfold val_main_v10 val_main_v9 val_main_v6 val_main_v5
  generalize val_main_v4 (F := Ideal) x0 x2 x3 = y at h4 ⊢
  pointwise
  rw [h4]
  exact congrArg (col x0 x2 x3 s b) (Fin.ext (by dsimp only; omega))

/-- The reference's keys at an index: batch and head are one axis. -/
theorem v12_apply (b : Fin 2) (h : Fin 12) (s : Fin 2048) (e : Fin 64) :
    val_main_v12 (F := Ideal) x0 x2 x3 (ix3 ⟨b.val * 12 + h.val, by omega⟩ s e) = col x0 x2 x3 s b ⟨192 * h.val + 64 + e.val, by omega⟩ := by
  have h4 := v4_apply x0 x2 x3
  unfold val_main_v12 val_main_v11 val_main_v7 val_main_v5
  generalize val_main_v4 (F := Ideal) x0 x2 x3 = y at h4 ⊢
  pointwise
  rw [h4]
  exact congrArg (col x0 x2 x3 s b) (Fin.ext (by dsimp only; omega))

/-- The reference's values at an index: batch and head are one axis. -/
theorem v14_apply (b : Fin 2) (h : Fin 12) (s : Fin 2048) (e : Fin 64) :
    val_main_v14 (F := Ideal) x0 x2 x3 (ix3 ⟨b.val * 12 + h.val, by omega⟩ s e) = col x0 x2 x3 s b ⟨192 * h.val + 128 + e.val, by omega⟩ := by
  have h4 := v4_apply x0 x2 x3
  unfold val_main_v14 val_main_v13 val_main_v8 val_main_v5
  generalize val_main_v4 (F := Ideal) x0 x2 x3 = y at h4 ⊢
  pointwise
  rw [h4]
  exact congrArg (col x0 x2 x3 s b) (Fin.ext (by dsimp only; omega))

/-- A selection on «not equal to zero» is the conditional. -/
theorem select_une (a x y : EReal) : Scalar.select (FloatOps.cmpf (F := Ideal) (φ := .f32) .une a (0 : EReal)) x y = if a ≠ 0 then x else y := by
  by_cases h : a = 0
  · subst h
    simp [Scalar.select, Ideal.cmpf_def, Ideal.cmp]
  · simp [Scalar.select, Ideal.cmpf_def, Ideal.cmp, h]

/-- The reference's mask bit at an index. -/
theorem v20_apply (b : Fin 2) (h : Fin 12) (s j : Fin 2048) :
    val_main_v20 (F := Ideal) x1 (ix3 ⟨b.val * 12 + h.val, by omega⟩ s j) = FloatOps.cmpf (F := Ideal) (φ := .f32) .une (x1 (ix4 b 0 s j)) (0 : EReal) := by
  pointwise [val_main_v20, val_main_v19, val_main_v18, val_main_v17, val_main_v16, val_main_v15, val_main_cst]

/-- The reference's masked score at an index. -/
theorem v24_apply (b : Fin 2) (h : Fin 12) (s j : Fin 2048) :
    val_main_v24 (F := Ideal) x0 x1 x2 x3 (ix3 ⟨b.val * 12 + h.val, by omega⟩ s j)
      = Attn.refS (fun e => col x0 x2 x3 s b ⟨192 * h.val + e.val, by omega⟩) (fun j e => col x0 x2 x3 j b ⟨192 * h.val + 64 + e.val, by omega⟩) (fun j => x1 (ix4 b 0 s j)) j := by
  have hq := v10_apply x0 x2 x3 b h s
  have hk := v12_apply x0 x2 x3 b h j
  have hm := v20_apply x1 b h s j
  unfold val_main_v24 val_main_v23 val_main_v22 val_main_v21 val_main_cst_0 val_main_call0_v1 val_main_call0_v0 val_main_cst_1 Attn.refS
  generalize val_main_v10 (F := Ideal) x0 x2 x3 = q at hq ⊢
  generalize val_main_v12 (F := Ideal) x0 x2 x3 = k at hk ⊢
  generalize val_main_v20 (F := Ideal) x1 = n at hm ⊢
  simp only [id_eq]
  pointwise [dot_S24x2048x64_S24x2048x64_S24x2048x2048_2_2_1_1_0_0]
  simp only [hq, hk, hm, select_une, Attn.ofBits_eight, Attn.ofBits_neg_inf]

/-- The greatest entry of a row, from −∞, at an index. -/
theorem rowmax_apply (y : FVec Ideal S24x2048x2048 .f32) (n : Fin 24) (s : Fin 2048) :
    Host.reduce (FloatOps.maximumf (F := Ideal) (φ := .f32)) y (constant (F := Ideal) S_ .f32 0xFF800000#32) reducesTo_S24x2048x2048_S24x2048_d2 h_S_ (ix2 n s)
      = Finset.univ.fold max (⊥ : EReal) (fun j => y (ix3 n s j)) := by
  pointwise
  rw [Attn.ofBits_neg_inf]

/-- The reference's row maximum at an index, before it is compared with −∞ again. -/
theorem v25_apply (b : Fin 2) (h : Fin 12) (s : Fin 2048) :
    val_main_v25 (F := Ideal) x0 x1 x2 x3 (ix2 ⟨b.val * 12 + h.val, by omega⟩ s)
      = Finset.univ.fold max ⊥ (Attn.refS (fun e => col x0 x2 x3 s b ⟨192 * h.val + e.val, by omega⟩) (fun j e => col x0 x2 x3 j b ⟨192 * h.val + 64 + e.val, by omega⟩) (fun j => x1 (ix4 b 0 s j))) := by
  have hs := v24_apply x0 x1 x2 x3 b h s
  unfold val_main_v25 val_main_cst_2
  generalize val_main_v24 (F := Ideal) x0 x1 x2 x3 = y at hs ⊢
  refine (rowmax_apply y _ s).trans (congrArg (fun f => Finset.univ.fold max (⊥ : EReal) f) (funext hs))

/-- An entry compared with −∞ for the greater is that entry. -/
theorem max_bot_apply (y : FVec Ideal S24x2048 .f32) (n : Fin 24) (s : Fin 2048) (z : EReal) (hz : y (ix2 n s) = z) :
    maximumf (broadcastInDim S24x2048 ![] bcast_S_S24x2048 (constant (F := Ideal) S_ .f32 0xFF800000#32)) y (ix2 n s) = z := by
  pointwise
  rw [hz, Attn.ofBits_neg_inf]
  exact max_eq_right bot_le

/-- The reference's second maximum with −∞ changes no row maximum. -/
theorem v27_of (n : Fin 24) (s : Fin 2048) (z : EReal) (hz : val_main_v25 (F := Ideal) x0 x1 x2 x3 (ix2 n s) = z) :
    val_main_v27 (F := Ideal) x0 x1 x2 x3 (ix2 n s) = z :=
  max_bot_apply _ n s z hz

/-- The reference's row maximum at an index. -/
theorem v27_apply (b : Fin 2) (h : Fin 12) (s : Fin 2048) :
    val_main_v27 (F := Ideal) x0 x1 x2 x3 (ix2 ⟨b.val * 12 + h.val, by omega⟩ s)
      = Finset.univ.fold max ⊥ (Attn.refS (fun e => col x0 x2 x3 s b ⟨192 * h.val + e.val, by omega⟩) (fun j e => col x0 x2 x3 j b ⟨192 * h.val + 64 + e.val, by omega⟩) (fun j => x1 (ix4 b 0 s j))) :=
  v27_of x0 x1 x2 x3 _ s _ (v25_apply x0 x1 x2 x3 b h s)

/-- The reference's exponential at an index. -/
theorem v31_apply (b : Fin 2) (h : Fin 12) (s j : Fin 2048) :
    val_main_v31 (F := Ideal) x0 x1 x2 x3 (ix3 ⟨b.val * 12 + h.val, by omega⟩ s j)
      = Attn.refE (fun e => col x0 x2 x3 s b ⟨192 * h.val + e.val, by omega⟩) (fun j e => col x0 x2 x3 j b ⟨192 * h.val + 64 + e.val, by omega⟩) (fun j => x1 (ix4 b 0 s j)) j := by
  have hs := v24_apply x0 x1 x2 x3 b h s
  have hx := v27_apply x0 x1 x2 x3 b h s
  unfold val_main_v31 val_main_v30 val_main_v29 val_main_v28 Attn.refE
  generalize val_main_v24 (F := Ideal) x0 x1 x2 x3 = y at hs ⊢
  generalize val_main_v27 (F := Ideal) x0 x1 x2 x3 = z at hx ⊢
  pointwise
  simp only [hs, hx]

/-- The reference's attention weight at an index. -/
theorem v36_apply (b : Fin 2) (h : Fin 12) (s j : Fin 2048) :
    val_main_v36 (F := Ideal) x0 x1 x2 x3 (ix3 ⟨b.val * 12 + h.val, by omega⟩ s j)
      = Attn.refW (fun e => col x0 x2 x3 s b ⟨192 * h.val + e.val, by omega⟩) (fun j e => col x0 x2 x3 j b ⟨192 * h.val + 64 + e.val, by omega⟩) (fun j => x1 (ix4 b 0 s j)) j := by
  have he := v31_apply x0 x1 x2 x3 b h s
  have hm := v20_apply x1 b h s j
  unfold val_main_v36 val_main_v35 val_main_v34 val_main_v33 val_main_v32 val_main_cst_4 val_main_call1_v1 val_main_call1_v0 val_main_cst_5 Attn.refW
  generalize val_main_v31 (F := Ideal) x0 x1 x2 x3 = y at he ⊢
  generalize val_main_v20 (F := Ideal) x1 = n at hm ⊢
  simp only [id_eq]
  pointwise
  simp only [he, hm, select_une]

/-- The reference's value of one head at an index. -/
theorem v37_apply (b : Fin 2) (h : Fin 12) (s : Fin 2048) (d : Fin 64) :
    val_main_v37 (F := Ideal) x0 x1 x2 x3 (ix3 ⟨b.val * 12 + h.val, by omega⟩ s d)
      = lane Attn.refHead x0 x1 x2 x3 s b h d := by
  have hw := v36_apply x0 x1 x2 x3 b h s
  have hv : ∀ j, _ := fun j => v14_apply x0 x2 x3 b h j d
  unfold val_main_v37 lane Attn.refHead
  generalize val_main_v36 (F := Ideal) x0 x1 x2 x3 = y at hw ⊢
  generalize val_main_v14 (F := Ideal) x0 x2 x3 = z at hv ⊢
  pointwise [dot_S24x2048x2048_S24x2048x64_S24x2048x64_2_1_1_2_0_0]
  simp only [hw, hv]

/-- The reference's result at an index. -/
theorem v43_apply (s : Fin 2048) (b : Fin 2) (o : Fin 768) :
    val_main_v43 (F := Ideal) x0 x1 x2 x3 x4 x5 (ix3 s b o) = outp Attn.refHead x0 x1 x2 x3 x4 x5 s b o := by
  have hl := fun h d => v37_apply x0 x1 x2 x3 b h s d
  unfold val_main_v43 val_main_v42 val_main_v41 val_main_v40 val_main_v39 val_main_v38 outp
  generalize val_main_v37 (F := Ideal) x0 x1 x2 x3 = y at hl ⊢
  pointwise [dot_S2048x2x768_S768x768_S2048x2x768_2_0_01_1_n_n]
  refine congrArg₂ (· + ·) (Finset.sum_congr rfl fun k _ => congrArg₂ (· * ·) ?_ rfl) rfl
  refine Eq.trans (congrArg y ?_) (hl ⟨k.val / 64, by omega⟩ ⟨k.val % 64, by omega⟩)
  blk_ext

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_masked
public import proofs.«01_k».proof.Proof.Gen.ReferenceIdeal.Run
public import proofs.«01_k».proof.Proof.Gen.ReferenceIdeal.Read
public import proofs.«01_k».proof.Proof.KernelRun
public import proofs.«01_k».proof.Proof.Finite
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The reference terminates, leaves its arguments as they were and ends with every semaphore at zero: it is plain host
    arithmetic, with no semaphore at all. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one literal the kernel's idealization names is what the table says it is. -/
theorem preserves : Cert.preserves_Kernel_KernelIdeal :=
  IdealRules.named_const.statement Cert.KernelIdeal.κ "mask" .f32 0x4E6E6B28#32 ⊤ rfl

/-- The result array the kernel leaves is the reference's result on the same arguments, at every element, when the
    precondition holds of them. -/
theorem result_eq (m : (ℓ : Loc Cert.KernelIdeal.nD Cert.KernelIdeal.τ Cert.KernelIdeal.sig) → Buf (Elt Ideal) ℓ)
    (ρ : Dev Cert.KernelIdeal.nD → PrngReg) (hp : Cert.Pre_KernelIdeal_finite_masked m) (c : Dev Cert.KernelIdeal.nD) :
    (Cert.KernelIdeal.Gen.W5 m ρ c (Proc.devRef .tc Cert.KernelIdeal.main_v31) : Vec Ideal Cert.KernelIdeal.S2048x2x768 .f32)
      = Cert.ReferenceIdeal.Read.val_main_v43 (F := Ideal) (m (c.tc.loc Cert.KernelIdeal.main_arg0)) (m (c.tc.loc Cert.KernelIdeal.main_arg1))
          (m (c.tc.loc Cert.KernelIdeal.main_arg2)) (m (c.tc.loc Cert.KernelIdeal.main_arg3)) (m (c.tc.loc Cert.KernelIdeal.main_arg4))
          (m (c.tc.loc Cert.KernelIdeal.main_arg5)) := by
  obtain ⟨h1, h2, h3, h4⟩ := hp c
  obtain ⟨hx, hM, hW, hb⟩ := Cert.KernelIdeal.Value.pre_reads _ _ _ _ _ _ h1 h2 h3 h4
  funext i
  idx_vars i
  rw [Cert.KernelIdeal.Value.result_apply, Cert.KernelIdeal.Value.outp_eq _ _ _ _ _ _ hx hM hW hb]
  exact (Cert.ReferenceIdeal.Value.v43_apply _ _ _ _ _ _ _ _ _).symm

/-- In exact arithmetic the kernel and the reference, run on the same arguments, both end with their arguments as they
    were and with the same result array, when the precondition holds of the arguments. -/
theorem algebraic : Cert.algebraic_KernelIdeal_ReferenceIdeal_pre_finite_masked := fun m g m' g' hp ha =>
  ⟨fun c => Cert.KernelIdeal.Gen.W5 m g c (Proc.devRef .tc Cert.KernelIdeal.main_v31), Cert.KernelIdeal.Value.run m g,
    (θ_run Cert.ReferenceIdeal.defs _ _).mono
      (fun r h c => ⟨(h c).1.trans (by
        obtain ⟨e0, e1, e2, e3, e4, e5⟩ := ha c
        rw [Cert.ReferenceIdeal.Read.val_main_v43_eq, e0, e1, e2, e3, e4, e5]
        exact (result_eq m g hp c).symm), (h c).2⟩)
      (Cert.ReferenceIdeal.Value.run (F := Ideal) m' g')⟩

/-- All the claims together. -/
theorem claim : Cert.Claim :=
  ⟨Cert.Kernel.Gen.facts, Cert.KernelIdeal.Gen.facts, Cert.ReferenceIdeal.Gen.facts, Cert.Pre_finite_masked.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
